-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Scan_ScanIdeal : Prop :=
  True

def Claim : Prop :=
  ∃ (hKernel : Cert.Kernel.Facts) (hKernelIdeal : Cert.KernelIdeal.Facts) (hReferenceIdeal : Cert.ReferenceIdeal.Facts) (hScan : Cert.Scan.Facts) (hScanIdeal : Cert.ScanIdeal.Facts),
    quiescent_Kernel (hKernel := hKernel)
    ∧ quiescent_KernelIdeal (hKernelIdeal := hKernelIdeal)
    ∧ quiescent_ReferenceIdeal (hReferenceIdeal := hReferenceIdeal)
    ∧ quiescent_Scan (hScan := hScan)
    ∧ quiescent_ScanIdeal (hScanIdeal := hScanIdeal)
    ∧ preserves_Kernel_KernelIdeal
    ∧ algebraic_KernelIdeal_ReferenceIdeal (hKernelIdeal := hKernelIdeal) (hReferenceIdeal := hReferenceIdeal)
    ∧ preserves_Scan_ScanIdeal
-- ==== Kernel.lean ====
abbrev S1x128x1024 : Shape := ⟨3, ![1, 128, 1024]⟩
abbrev S360448x512 : Shape := ⟨2, ![360448, 512]⟩
abbrev S360448 : Shape := ⟨1, ![360448]⟩
abbrev S128x1024 : Shape := ⟨2, ![128, 1024]⟩
abbrev S1x360448 : Shape := ⟨2, ![1, 360448]⟩
abbrev S1x128x100 : Shape := ⟨3, ![1, 128, 100]⟩
abbrev S2048x512 : Shape := ⟨2, ![2048, 512]⟩
abbrev S1x2048 : Shape := ⟨2, ![1, 2048]⟩
abbrev S128x128 : Shape := ⟨2, ![128, 128]⟩
abbrev S16x128x128 : Shape := ⟨3, ![16, 128, 128]⟩
abbrev S512x512 : Shape := ⟨2, ![512, 512]⟩
abbrev S512x1x512 : Shape := ⟨3, ![512, 1, 512]⟩
abbrev S512x2x512 : Shape := ⟨3, ![512, 2, 512]⟩
abbrev S1024x512 : Shape := ⟨2, ![1024, 512]⟩
abbrev S128x512 : Shape := ⟨2, ![128, 512]⟩
abbrev S1x512 : Shape := ⟨2, ![1, 512]⟩
abbrev S1x128x128 : Shape := ⟨3, ![1, 128, 128]⟩
abbrev S128x100 : Shape := ⟨2, ![128, 100]⟩

abbrev nBuf : Space → Nat
  | .hbm => 6
  | .vmem => 8
  | .smem => 0
  | _ => 0

abbrev bufTy : (tb : Table) → Fin (tcTables nBuf tb) → BufTy
  | .hbm, ⟨0, _⟩ => ⟨S1x128x1024, .bf16⟩
  | .hbm, ⟨1, _⟩ => ⟨S360448x512, .i8⟩
  | .hbm, ⟨2, _⟩ => ⟨S360448, .f32⟩
  | .hbm, ⟨3, _⟩ => ⟨S128x1024, .bf16⟩
  | .hbm, ⟨4, _⟩ => ⟨S1x360448, .f32⟩
  | .hbm, ⟨5, _⟩ => ⟨S1x128x100, .f32⟩
  | .local _ .vmem, ⟨0, _⟩ => ⟨S128x1024, .bf16⟩
  | .local _ .vmem, ⟨1, _⟩ => ⟨S2048x512, .i8⟩
  | .local _ .vmem, ⟨2, _⟩ => ⟨S2048x512, .i8⟩
  | .local _ .vmem, ⟨3, _⟩ => ⟨S1x2048, .f32⟩
  | .local _ .vmem, ⟨4, _⟩ => ⟨S1x2048, .f32⟩
  | .local _ .vmem, ⟨5, _⟩ => ⟨S1x128x100, .f32⟩
  | .local _ .vmem, ⟨6, _⟩ => ⟨S128x128, .f32⟩
  | .local _ .vmem, ⟨7, _⟩ => ⟨S16x128x128, .f32⟩
  | _, _ => ⟨S1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![176], ![false]⟩

@[reducible] def k0_t1_loop : Scf.Loop 32 :=
  let c0_i32_67 : BitVec 32 := 0#32
  let c16_i32 : BitVec 32 := 16#32
  let v152 : BitVec 32 := Scalar.addi c0_i32_67 c16_i32
  let c1_i32 : BitVec 32 := 1#32
  ⟨c0_i32_67, v152, c1_i32⟩
def k0_off1 (k0_t1 : Fin k0_t1_loop.trips) : Fin 3 → Nat :=
  let c0_i32_67 : BitVec 32 := 0#32
  let c1_i32 : BitVec 32 := 1#32
  let arg7 : BitVec 32 := Scf.iv c0_i32_67 c1_i32 k0_t1
  let v156 : Index := Scalar.indexCast arg7
  let c0_70 : Index := 0#32
  let c0_71 : Index := 0#32
  ![v156.toNat, 0, 0]
def k0_cond2 (i : grid0.Coords) : BitVec 1 :=
  let arg0 : BitVec 32 := BitVec.ofNat 32 (i 0).val
  let c175_i32 : BitVec 32 := 175#32
  let v153 : BitVec 1 := Scalar.cmpi .eq arg0 c175_i32
  let v154 : BitVec 32 := Scalar.extui v153
  let c0_i32_69 : BitVec 32 := 0#32
  let v155 : BitVec 1 := Scalar.cmpi .ne v154 c0_i32_69
  v155

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x128x1024 : Shape := ⟨3, ![1, 128, 1024]⟩
abbrev S360448x512 : Shape := ⟨2, ![360448, 512]⟩
abbrev S360448 : Shape := ⟨1, ![360448]⟩
abbrev S128x1024 : Shape := ⟨2, ![128, 1024]⟩
abbrev S128x512 : Shape := ⟨2, ![128, 512]⟩
abbrev S_ : Shape := ⟨0, ![]⟩
abbrev S128x360448 : Shape := ⟨2, ![128, 360448]⟩
abbrev S1x360448 : Shape := ⟨2, ![1, 360448]⟩
abbrev S128x2816x128 : Shape := ⟨3, ![128, 2816, 128]⟩
abbrev S128x2816 : Shape := ⟨2, ![128, 2816]⟩
abbrev S128x100 : Shape := ⟨2, ![128, 100]⟩
abbrev S128x100x1 : Shape := ⟨3, ![128, 100, 1]⟩
abbrev S1 : Shape := ⟨1, ![1]⟩
abbrev S1x1x1 : Shape := ⟨3, ![1, 1, 1]⟩
abbrev S128x100x128 : Shape := ⟨3, ![128, 100, 128]⟩
abbrev S128x12800 : Shape := ⟨2, ![128, 12800]⟩
abbrev S1x128x100 : Shape := ⟨3, ![1, 128, 100]⟩

abbrev nBuf : Space → Nat
  | .hbm => 67
  | .vmem => 0
  | .smem => 0
  | _ => 0

abbrev bufTy : (tb : Table) → Fin (tcTables nBuf tb) → BufTy
  | .hbm, ⟨0, _⟩ => ⟨S1x128x1024, .bf16⟩
  | .hbm, ⟨1, _⟩ => ⟨S360448x512, .i8⟩
  | .hbm, ⟨2, _⟩ => ⟨S360448, .f32⟩
  | .hbm, ⟨3, _⟩ => ⟨S128x1024, .bf16⟩
  | .hbm, ⟨4, _⟩ => ⟨S128x512, .bf16⟩
  | .hbm, ⟨5, _⟩ => ⟨S128x512, .bf16⟩
  | .hbm, ⟨6, _⟩ => ⟨S360448x512, .i32⟩
  | .hbm, ⟨7, _⟩ => ⟨S_, .i32⟩
  | .hbm, ⟨8, _⟩ => ⟨S360448x512, .i32⟩
  | .hbm, ⟨9, _⟩ => ⟨S360448x512, .i32⟩
  | .hbm, ⟨10, _⟩ => ⟨S_, .i32⟩
  | .hbm, ⟨11, _⟩ => ⟨S360448x512, .i32⟩
  | .hbm, ⟨12, _⟩ => ⟨S360448x512, .i1⟩
  | .hbm, ⟨13, _⟩ => ⟨S_, .i32⟩
  | .hbm, ⟨14, _⟩ => ⟨S360448x512, .i32⟩
  | .hbm, ⟨15, _⟩ => ⟨S360448x512, .i32⟩
  | .hbm, ⟨16, _⟩ => ⟨S360448x512, .i32⟩
  | .hbm, ⟨17, _⟩ => ⟨S360448x512, .bf16⟩
  | .hbm, ⟨18, _⟩ => ⟨S_, .i32⟩
  | .hbm, ⟨19, _⟩ => ⟨S360448x512, .i32⟩
  | .hbm, ⟨20, _⟩ => ⟨S360448x512, .i32⟩
  | .hbm, ⟨21, _⟩ => ⟨S_, .i32⟩
  | .hbm, ⟨22, _⟩ => ⟨S360448x512, .i32⟩
  | .hbm, ⟨23, _⟩ => ⟨S360448x512, .i1⟩
  | .hbm, ⟨24, _⟩ => ⟨S_, .i32⟩
  | .hbm, ⟨25, _⟩ => ⟨S360448x512, .i32⟩
  | .hbm, ⟨26, _⟩ => ⟨S360448x512, .i32⟩
  | .hbm, ⟨27, _⟩ => ⟨S360448x512, .i32⟩
  | .hbm, ⟨28, _⟩ => ⟨S360448x512, .bf16⟩
  | .hbm, ⟨29, _⟩ => ⟨S128x360448, .f32⟩
  | .hbm, ⟨30, _⟩ => ⟨S128x360448, .f32⟩
  | .hbm, ⟨31, _⟩ => ⟨S128x360448, .f32⟩
  | .hbm, ⟨32, _⟩ => ⟨S1x360448, .f32⟩
  | .hbm, ⟨33, _⟩ => ⟨S128x360448, .f32⟩
  | .hbm, ⟨34, _⟩ => ⟨S128x360448, .f32⟩
  | .hbm, ⟨35, _⟩ => ⟨S128x2816x128, .f32⟩
  | .hbm, ⟨36, _⟩ => ⟨S_, .f32⟩
  | .hbm, ⟨37, _⟩ => ⟨S128x2816, .f32⟩
  | .hbm, ⟨38, _⟩ => ⟨S128x100, .f32⟩
  | .hbm, ⟨39, _⟩ => ⟨S128x100, .i32⟩
  | .hbm, ⟨40, _⟩ => ⟨S128x100x1, .i32⟩
  | .hbm, ⟨41, _⟩ => ⟨S_, .i32⟩
  | .hbm, ⟨42, _⟩ => ⟨S128x100x1, .i32⟩
  | .hbm, ⟨43, _⟩ => ⟨S128x100x1, .i1⟩
  | .hbm, ⟨44, _⟩ => ⟨S_, .i32⟩
  | .hbm, ⟨45, _⟩ => ⟨S128x100x1, .i32⟩
  | .hbm, ⟨46, _⟩ => ⟨S128x100x1, .i32⟩
  | .hbm, ⟨47, _⟩ => ⟨S128x100x1, .i32⟩
  | .hbm, ⟨48, _⟩ => ⟨S1, .i32⟩
  | .hbm, ⟨49, _⟩ => ⟨S_, .i32⟩
  | .hbm, ⟨50, _⟩ => ⟨S128x100x1, .i32⟩
  | .hbm, ⟨51, _⟩ => ⟨S128x100x1, .i1⟩
  | .hbm, ⟨52, _⟩ => ⟨S1x1x1, .i32⟩
  | .hbm, ⟨53, _⟩ => ⟨S128x100x1, .i32⟩
  | .hbm, ⟨54, _⟩ => ⟨S128x100x1, .i1⟩
  | .hbm, ⟨55, _⟩ => ⟨S128x100x1, .i1⟩
  | .hbm, ⟨56, _⟩ => ⟨S_, .i1⟩
  | .hbm, ⟨57, _⟩ => ⟨S128x100, .i1⟩
  | .hbm, ⟨58, _⟩ => ⟨S128x100x128, .f32⟩
  | .hbm, ⟨59, _⟩ => ⟨S128x100x128, .i1⟩
  | .hbm, ⟨60, _⟩ => ⟨S_, .f32⟩
  | .hbm, ⟨61, _⟩ => ⟨S128x100x128, .f32⟩
  | .hbm, ⟨62, _⟩ => ⟨S128x100x128, .f32⟩
  | .hbm, ⟨63, _⟩ => ⟨S128x12800, .f32⟩
  | .hbm, ⟨64, _⟩ => ⟨S128x100, .f32⟩
  | .hbm, ⟨65, _⟩ => ⟨S128x100, .i32⟩
  | .hbm, ⟨66, _⟩ => ⟨S1x128x100, .f32⟩
  | _, _ => ⟨S1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_values : Ref sig .tc := ⟨.hbm, 38, rfl⟩
abbrev main_indices : Ref sig .tc := ⟨.hbm, 39, rfl⟩
abbrev main_v28 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_c_1 : Ref sig .tc := ⟨.hbm, 48, rfl⟩
abbrev main_call2_c_2 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_c_3 : Ref sig .tc := ⟨.hbm, 56, rfl⟩
abbrev main_call2_v11 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v29 : Ref sig .tc := ⟨.hbm, 62, rfl⟩
abbrev main_v30 : Ref sig .tc := ⟨.hbm, 63, rfl⟩
abbrev main_values_5 : Ref sig .tc := ⟨.hbm, 64, rfl⟩
abbrev main_indices_6 : Ref sig .tc := ⟨.hbm, 65, rfl⟩
abbrev main_v31 : Ref sig .tc := ⟨.hbm, 66, rfl⟩

abbrev nD : Nat := 1
abbrev τ : Topo := Topo.v7x

variable {F : FTy → Type} [FloatOps F]
-- ==== Scan.lean ====
abbrev S1x128x1024 : Shape := ⟨3, ![1, 128, 1024]⟩
abbrev S360448x512 : Shape := ⟨2, ![360448, 512]⟩
abbrev S360448 : Shape := ⟨1, ![360448]⟩
abbrev S128x1024 : Shape := ⟨2, ![128, 1024]⟩
abbrev S1x360448 : Shape := ⟨2, ![1, 360448]⟩
abbrev S1x128x100 : Shape := ⟨3, ![1, 128, 100]⟩
abbrev S1x128 : Shape := ⟨2, ![1, 128]⟩
abbrev S5632x512 : Shape := ⟨2, ![5632, 512]⟩
abbrev S1x5632 : Shape := ⟨2, ![1, 5632]⟩
abbrev S4x128x128 : Shape := ⟨3, ![4, 128, 128]⟩
abbrev S16x128x128 : Shape := ⟨3, ![16, 128, 128]⟩
abbrev S128x128 : Shape := ⟨2, ![128, 128]⟩
abbrev S1x8x128 : Shape := ⟨3, ![1, 8, 128]⟩
abbrev S8x128 : Shape := ⟨2, ![8, 128]⟩
abbrev S512x512 : Shape := ⟨2, ![512, 512]⟩
abbrev S512x1x512 : Shape := ⟨3, ![512, 1, 512]⟩
abbrev S512x2x512 : Shape := ⟨3, ![512, 2, 512]⟩
abbrev S1024x512 : Shape := ⟨2, ![1024, 512]⟩
abbrev S128x512 : Shape := ⟨2, ![128, 512]⟩
abbrev S1x512 : Shape := ⟨2, ![1, 512]⟩
abbrev S1x128x128 : Shape := ⟨3, ![1, 128, 128]⟩
abbrev S64x128 : Shape := ⟨2, ![64, 128]⟩
abbrev S32x128 : Shape := ⟨2, ![32, 128]⟩
abbrev S16x128 : Shape := ⟨2, ![16, 128]⟩
abbrev S128 : Shape := ⟨1, ![128]⟩
abbrev S128x100 : Shape := ⟨2, ![128, 100]⟩

abbrev nBuf : Space → Nat
  | .hbm => 7
  | .vmem => 11
  | .smem => 0
  | _ => 0

abbrev bufTy : (tb : Table) → Fin (tcTables nBuf tb) → BufTy
  | .hbm, ⟨0, _⟩ => ⟨S1x128x1024, .bf16⟩
  | .hbm, ⟨1, _⟩ => ⟨S360448x512, .i8⟩
  | .hbm, ⟨2, _⟩ => ⟨S360448, .f32⟩
  | .hbm, ⟨3, _⟩ => ⟨S128x1024, .bf16⟩
  | .hbm, ⟨4, _⟩ => ⟨S1x360448, .f32⟩
  | .hbm, ⟨5, _⟩ => ⟨S1x128x100, .f32⟩
  | .hbm, ⟨6, _⟩ => ⟨S1x128, .i32⟩
  | .local _ .vmem, ⟨0, _⟩ => ⟨S128x1024, .bf16⟩
  | .local _ .vmem, ⟨1, _⟩ => ⟨S5632x512, .i8⟩
  | .local _ .vmem, ⟨2, _⟩ => ⟨S5632x512, .i8⟩
  | .local _ .vmem, ⟨3, _⟩ => ⟨S1x5632, .f32⟩
  | .local _ .vmem, ⟨4, _⟩ => ⟨S1x5632, .f32⟩
  | .local _ .vmem, ⟨5, _⟩ => ⟨S1x128x100, .f32⟩
  | .local _ .vmem, ⟨6, _⟩ => ⟨S1x128, .i32⟩
  | .local _ .vmem, ⟨7, _⟩ => ⟨S128x1024, .bf16⟩
  | .local _ .vmem, ⟨8, _⟩ => ⟨S4x128x128, .f32⟩
  | .local _ .vmem, ⟨9, _⟩ => ⟨S16x128x128, .f32⟩
  | .local _ .vmem, ⟨10, _⟩ => ⟨S128x128, .f32⟩
  | _, _ => ⟨S1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v10565 : BitVec 1 := Scalar.cmpi .eq arg0 c63_i32
  let v10566 : BitVec 32 := Scalar.extui v10565
  let c0_i32_5872 : BitVec 32 := 0#32
  let v10567 : BitVec 1 := Scalar.cmpi .ne v10566 c0_i32_5872
  v10567

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5632x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proof.Nibbles.lean ====
/-
  THE TWO CODES OF A BYTE. A byte holds two signed four-bit numbers: the low four bits and the high four bits, each in two's complement. One
  program takes them from the byte widened with its sign by shifts, the other from the byte widened with zeros by a mask, a shift and a
  subtraction of 16. `pairScore` is a row's score against a row of bytes: even positions against the low codes, odd ones against the high.
-/
module

public import Idealize.ShloMosaic.Lib.Pointwise

@[expose] public section

noncomputable section

namespace Cert.Score

open Idealize.ShloMosaic

/-- The signed number in the low four bits. -/
def low (b : BitVec 8) : ℤ := if 8 ≤ b.toNat % 16 then (b.toNat % 16 : ℕ) - 16 else (b.toNat % 16 : ℕ)

/-- The signed number in the high four bits. -/
def high (b : BitVec 8) : ℤ := if 8 ≤ b.toNat / 16 then (b.toNat / 16 : ℕ) - 16 else (b.toNat / 16 : ℕ)

/-- Pushed up and back down with its sign, a byte leaves its low code. -/
theorem low_shift (b : BitVec 8) : (IntOp.shrsi .vector (IntOp.shli .vector (b.signExtend 32) 28#32) 28#32).toInt = low b := by
  have h : ∀ i : Fin 256, (IntOp.shrsi .vector (IntOp.shli .vector ((BitVec.ofFin i : BitVec 8).signExtend 32) 28#32) 28#32).toInt
      = low (BitVec.ofFin i) := by decide +kernel
  exact h b.toFin

/-- Pushed down with its sign, a byte leaves its high code. -/
theorem high_shift (b : BitVec 8) : (IntOp.shrsi .vector (b.signExtend 32) 4#32).toInt = high b := by
  have h : ∀ i : Fin 256, (IntOp.shrsi .vector ((BitVec.ofFin i : BitVec 8).signExtend 32) 4#32).toInt
      = high (BitVec.ofFin i) := by decide +kernel
  exact h b.toFin

/-- Pushed down without a sign, and 16 less from 8 on, a byte leaves its high code. -/
theorem high_mask (b : BitVec 8) :
    (if IntOp.cmpi .sge (IntOp.shrsi .host (b.setWidth 32) 4#32) 8#32 = 1#1 then IntOp.subi (IntOp.shrsi .host (b.setWidth 32) 4#32) 16#32
      else IntOp.shrsi .host (b.setWidth 32) 4#32).toInt = high b := by
  have h : ∀ i : Fin 256, (if IntOp.cmpi .sge (IntOp.shrsi .host ((BitVec.ofFin i : BitVec 8).setWidth 32) 4#32) 8#32 = 1#1
      then IntOp.subi (IntOp.shrsi .host ((BitVec.ofFin i : BitVec 8).setWidth 32) 4#32) 16#32
      else IntOp.shrsi .host ((BitVec.ofFin i : BitVec 8).setWidth 32) 4#32).toInt = high (BitVec.ofFin i) := by decide +kernel
  exact h b.toFin

/-- Masked, and 16 less from 8 on, a byte leaves its low code. -/
theorem low_mask (b : BitVec 8) :
    (if IntOp.cmpi .sge (IntOp.andi (b.setWidth 32) 15#32) 8#32 = 1#1 then IntOp.subi (IntOp.andi (b.setWidth 32) 15#32) 16#32
      else IntOp.andi (b.setWidth 32) 15#32).toInt = low b := by
  have h : ∀ i : Fin 256, (if IntOp.cmpi .sge (IntOp.andi ((BitVec.ofFin i : BitVec 8).setWidth 32) 15#32) 8#32 = 1#1
      then IntOp.subi (IntOp.andi ((BitVec.ofFin i : BitVec 8).setWidth 32) 15#32) 16#32
      else IntOp.andi ((BitVec.ofFin i : BitVec 8).setWidth 32) 15#32).toInt = low (BitVec.ofFin i) := by decide +kernel
  exact h b.toFin

/-- A row's score against row `n` of the bytes. -/
def pairScore {N : ℕ} (x : FVec Ideal ⟨2, ![128, 1024]⟩ .bf16) (w : IVec ⟨2, ![N, 512]⟩ 8) (r : Fin 128) (n : Fin N) : EReal :=
  (∑ d : Fin 512, x (ix2 r ⟨2 * d.val, by omega⟩) * (((low (w (ix2 n d)) : ℤ) : ℝ) : EReal))
    + ∑ d : Fin 512, x (ix2 r ⟨2 * d.val + 1, by omega⟩) * (((high (w (ix2 n d)) : ℤ) : ℝ) : EReal)

/-- A sum over 1024 positions is the sum over the even ones plus the sum over the odd ones. -/
theorem sum_even_odd (f : Fin 1024 → EReal) :
    ∑ k, f k = (∑ d : Fin 512, f ⟨2 * d.val, by omega⟩) + ∑ d : Fin 512, f ⟨2 * d.val + 1, by omega⟩ := by
  rw [← Equiv.sum_comp (finProdFinEquiv : Fin 512 × Fin 2 ≃ Fin (512 * 2)) f, Fintype.sum_prod_type, ← Finset.sum_add_distrib]
  refine Finset.sum_congr rfl fun d _ => ?_
  rw [Fin.sum_univ_two]
  congr 1 <;> congr 1 <;> apply Fin.ext <;> simp [finProdFinEquiv] <;> omega

end Cert.Score

end
-- ==== Proof.Passes.lean ====
/-
  ONE PASS OF THE SORTING NETWORK on a 128×128 tile whose columns are sorted independently, as the kernel writes it: every position is
  compared with the one at distance `d` (two rotations and a select), and keeps the greater or the lesser of the two. Read down one column a
  pass is a stage of the bitonic network (`pass_col`); the 28 passes of the full sort and the 7 of the merge are the library's networks; so
  folding a new tile into the running one leaves in each column the 128 greatest entries of both, in descending order (`foldTile_col`).
-/
module

public import Idealize.ShloMosaic.Lib.SortNet.Printed
public import Idealize.ShloMosaic.Lib.SortNet.Fold
public import Idealize.ShloMosaic.Lib.ValueIdx

@[expose] public section

noncomputable section

namespace Cert.Passes

open Idealize.ShloMosaic Idealize.ShloMosaic.SortNet

/-- The shape of a tile: 128 sorted positions by 128 independent columns. -/
abbrev Sq : Shape := ⟨2, ![128, 128]⟩

/-- Column `l` of a tile. -/
def colAt (l : Fin 128) : Column Sq 0 7 where
  col i := ix2 (n0 := 128) i l
  size_eq := rfl
  coord _ := rfl
  other _ _ b hb := by
    match b with
    | ⟨0, _⟩ => exact absurd rfl hb
    | ⟨1, _⟩ => rfl

/-- The mask of the positions whose number has the bit `d` set. -/
abbrev bitMask (pos : IVec Sq 32) (d : BitVec 32) : IVec Sq 1 := cmpi .ne (andi pos (broadcast Sq d)) (broadcast Sq 0#32)

/-- One pass: the entry at the other end of the exchange, and the greater or the lesser of the two. -/
def pass {F : FTy → Type} [FloatOps F] (h : Sq.Rotates 0 none) (upper keep : IVec Sq 1) (d nd : BitVec 32) (v : FVec F Sq .f32) :
    FVec F Sq .f32 :=
  select (xori upper keep)
    (maximumf v (select upper (dynamicRotate 0 d none v h) (dynamicRotate 0 nd none v h)))
    (minimumf v (select upper (dynamicRotate 0 d none v h) (dynamicRotate 0 nd none v h)))

/-- A pass read down a column is the network's stage. -/
theorem pass_col (l : Fin 128) {s : Nat} (hs : s < 7) (h : Sq.Rotates 0 none) (upper keep : IVec Sq 1) (d nd : BitVec 32)
    (hd : d.toNat = 2 ^ s) (hnd : nd.toNat = 2 ^ 7 - 2 ^ s) (keepB : Fin (2 ^ 7) → Bool)
    (hupper : ∀ i, upper ((colAt l).col i) = BitVec.ofBool (decide (i.val &&& 2 ^ s ≠ 0)))
    (hkeep : ∀ i, keep ((colAt l).col i) = BitVec.ofBool (keepB i))
    (hinv : ∀ i, keepB (partner 7 s i) = keepB i) (v : FVec Ideal Sq .f32) (E : Fin (2 ^ 7) → EReal)
    (hE : ∀ i, v ((colAt l).col i) = E i) (i : Fin (2 ^ 7)) :
    pass h upper keep d nd v ((colAt l).col i) = Network.apply (stage 7 s keepB) E i := by
  have hp := printedPartner_apply (colAt l) hs h upper hupper d nd hd hnd v i
  rw [← stage_upperXor 7 s keepB, apply_stage_select hs _ (fun j => upperXor_partner hs keepB j (hinv j)), ite_lt_eq_max_min]
  show Scalar.select (xori upper keep _) (max (v _) (printedPartner h upper d nd v _)) (min (v _) (printedPartner h upper d nd v _)) = _
  rw [hp, xori_apply_ofBool upper keep _ _ _ (hupper i) (hkeep i), select_ofBool, hE, hE]
  rfl

/-! ## The sort and the merge -/

/-- The passes of the full sort: (level, distance exponent). -/
def sched : List (Nat × Nat) :=
  [(0, 0), (1, 1), (1, 0), (2, 2), (2, 1), (2, 0), (3, 3), (3, 2), (3, 1), (3, 0), (4, 4), (4, 3), (4, 2), (4, 1), (4, 0),
   (5, 5), (5, 4), (5, 3), (5, 2), (5, 1), (5, 0), (6, 6), (6, 5), (6, 4), (6, 3), (6, 2), (6, 1), (6, 0)]

theorem sched_flatMap {β : Type} (g : Nat → Nat → List β) :
    ((List.range 7).flatMap fun l => (List.range (l + 1)).reverse.flatMap fun s => g l s) = sched.flatMap fun ls => g ls.1 ls.2 := by
  simp [sched, List.range_succ, List.append_assoc]

theorem sortNet_eq : sortNet 7 false = sched.flatMap fun ls => stage 7 ls.2 fun i => (decide (i.val &&& 2 ^ (ls.1 + 1) = 0)) == false :=
  sched_flatMap fun l s => stage 7 s fun i => (decide (i.val &&& 2 ^ (l + 1) = 0)) == false

theorem mergeNet_eq : mergeDescNet 7 = [6, 5, 4, 3, 2, 1, 0].flatMap fun s => stage 7 s fun _ => true := rfl

/-- The distance of a pass as a 32-bit word. -/
abbrev word (s : Nat) : BitVec 32 := BitVec.ofNat 32 (2 ^ s)
/-- The distance the other way around the column. -/
abbrev coword (s : Nat) : BitVec 32 := BitVec.ofNat 32 (128 - 2 ^ s)

/-- The full sort of a tile's columns. -/
def sortTile {F : FTy → Type} [FloatOps F] (h : Sq.Rotates 0 none) (pos : IVec Sq 32) (v : FVec F Sq .f32) : FVec F Sq .f32 :=
  sched.foldl (fun v ls => pass h (bitMask pos (word ls.2)) (bitMask pos (word (ls.1 + 1))) (word ls.2) (coword ls.2) v) v

/-- The descending merge of a tile's columns. -/
def mergeTile {F : FTy → Type} [FloatOps F] (h : Sq.Rotates 0 none) (pos : IVec Sq 32) (v : FVec F Sq .f32) : FVec F Sq .f32 :=
  [6, 5, 4, 3, 2, 1, 0].foldl (fun v s => pass h (bitMask pos (word s)) (broadcast Sq 1#1) (word s) (coword s) v) v

/-- A new tile folded into the running one. -/
def foldTile {F : FTy → Type} [FloatOps F] (h : Sq.Rotates 0 none) (pos : IVec Sq 32) (run new : FVec F Sq .f32) : FVec F Sq .f32 :=
  mergeTile h pos (maximumf run (sortTile h pos new))

theorem word_toNat {s : Nat} (hs : s ≤ 7) : (word s).toNat = 2 ^ s := by
  unfold word
  rw [BitVec.toNat_ofNat, Nat.mod_eq_of_lt (Nat.pow_lt_pow_right (by decide) (by omega))]

theorem coword_toNat {s : Nat} (hs : s ≤ 7) : (coword s).toNat = 2 ^ 7 - 2 ^ s := by
  unfold coword
  rw [BitVec.toNat_ofNat, Nat.mod_eq_of_lt (by have := Nat.two_pow_pos s; omega)]
  rfl

section cols

variable (h : Sq.Rotates 0 none) (pos : IVec Sq 32) (l : Fin 128) (hpos : ∀ i, pos ((colAt l).col i) = BitVec.ofNat 32 i.val)

include hpos

theorem bitMask_col {s : Nat} (hs : s ≤ 7) (i : Fin (2 ^ 7)) :
    bitMask pos (word s) ((colAt l).col i) = BitVec.ofBool (decide (i.val &&& 2 ^ s ≠ 0)) :=
  upper_apply (colAt l) (by decide) pos hpos (word s) (word_toNat hs) i

/-- Passes one after another are the network of their stages. -/
theorem sortPasses_col : ∀ (L : List (Nat × Nat)) (_ : ∀ ls ∈ L, ls.2 ≤ ls.1 ∧ ls.1 < 7) (v : FVec Ideal Sq .f32)
    (E : Fin (2 ^ 7) → EReal) (_ : ∀ i, v ((colAt l).col i) = E i) (i : Fin (2 ^ 7)),
    L.foldl (fun v ls => pass h (bitMask pos (word ls.2)) (bitMask pos (word (ls.1 + 1))) (word ls.2) (coword ls.2) v) v ((colAt l).col i)
      = Network.apply (L.flatMap fun ls => stage 7 ls.2 fun i => (decide (i.val &&& 2 ^ (ls.1 + 1) = 0)) == false) E i
  | [], _, v, E, hE, i => hE i
  | ls :: L, hL, v, E, hE, i => by
    have h0 := hL ls List.mem_cons_self
    rw [List.foldl_cons, List.flatMap_cons, Network.apply_append]
    refine sortPasses_col L (fun x hx => hL x (List.mem_cons_of_mem _ hx)) _ _ (fun j => ?_) i
    refine pass_col l (by omega) h _ _ _ _ (word_toNat (by omega)) (coword_toNat (by omega)) _ (bitMask_col pos l hpos (by omega)) (fun k => ?_)
      (fun k => sizeClear_partner (by omega) h0.1 false k) v E hE j
    rw [bitMask_col pos l hpos (by omega)]
    congr 1
    by_cases hk : k.val &&& 2 ^ (ls.1 + 1) = 0
    · simp [hk]
    · simp [hk]

theorem mergePasses_col : ∀ (L : List Nat) (_ : ∀ s ∈ L, s < 7) (v : FVec Ideal Sq .f32)
    (E : Fin (2 ^ 7) → EReal) (_ : ∀ i, v ((colAt l).col i) = E i) (i : Fin (2 ^ 7)),
    L.foldl (fun v s => pass h (bitMask pos (word s)) (broadcast Sq 1#1) (word s) (coword s) v) v ((colAt l).col i)
      = Network.apply (L.flatMap fun s => stage 7 s fun _ => true) E i
  | [], _, v, E, hE, i => hE i
  | s :: L, hL, v, E, hE, i => by
    have h0 := hL s List.mem_cons_self
    rw [List.foldl_cons, List.flatMap_cons, Network.apply_append]
    refine mergePasses_col L (fun x hx => hL x (List.mem_cons_of_mem _ hx)) _ _ (fun j => ?_) i
    exact pass_col l (by omega) h _ _ _ _ (word_toNat (by omega)) (coword_toNat (by omega)) _ (bitMask_col pos l hpos (by omega))
      (fun k => rfl) (fun k => rfl) v E hE j

/-- THE FOLD OF A TILE, DOWN A COLUMN: from a descending running column, the 128 greatest of it and of the new column, descending. -/
theorem foldTile_col (run new : FVec Ideal Sq .f32) (hrun : Antitone fun i : Fin (2 ^ 7) => run ((colAt l).col i)) :
    (Antitone fun i : Fin (2 ^ 7) => foldTile h pos run new ((colAt l).col i)) ∧
      (List.ofFn fun i : Fin (2 ^ 7) => foldTile h pos run new ((colAt l).col i))
        = topList (2 ^ 7) ((List.ofFn fun i : Fin (2 ^ 7) => run ((colAt l).col i)) ++ List.ofFn fun i : Fin (2 ^ 7) => new ((colAt l).col i)) := by
  have hsort : ∀ i, sortTile h pos new ((colAt l).col i) = Network.apply (sortNet 7 false) (fun i => new ((colAt l).col i)) i := fun i => by
    rw [sortNet_eq]
    exact sortPasses_col h pos l hpos sched (by decide) new _ (fun _ => rfl) i
  have hmerge : ∀ i, foldTile h pos run new ((colAt l).col i)
      = Network.apply (mergeDescNet 7) (fun j => max (run ((colAt l).col j)) (Network.apply (sortNet 7 false) (fun i => new ((colAt l).col i)) j)) i :=
    fun i => by
      rw [mergeNet_eq]
      refine mergePasses_col h pos l hpos _ (by decide) _ _ (fun j => ?_) i
      show max _ _ = _
      rw [hsort j]
  have key := foldStep 7 (fun j => run ((colAt l).col j)) (Network.apply (sortNet 7 false) (fun i => new ((colAt l).col i))) hrun
    (sortNet_apply_monotone 7 _)
  rw [show (fun i : Fin (2 ^ 7) => foldTile h pos run new ((colAt l).col i)) = _ from funext hmerge]
  refine ⟨key.1, key.2.trans (topList_perm (List.Perm.append_left _ ?_))⟩
  obtain ⟨σ, hσ⟩ := Network.exists_perm (sortNet 7 false) (fun i => new ((colAt l).col i))
  rw [hσ]
  exact Equiv.Perm.ofFn_comp_perm σ _

end cols

end Cert.Passes

end
-- ==== Proof.TripValue.lean ====
/-
  ONE TRIP OF THE LOOP AS PASSES. The printed body of the loop sorts the tile it reads and merges it into the running tile, 35 passes written
  out one by one. `trip_value`: what the trip stores is `Passes.foldTile` of the running tile and the transposed tile.
-/
module

public import proofs.«01_k».proof.Proof.Passes
public import Idealize.ShloMosaic.Lib.Pipeline.Value
public import proofs.«01_k».proof.Proof.Gen.KernelIdeal.Skeleton

@[expose] public section

noncomputable section

namespace Cert.KernelIdeal.Gen

open Idealize.ShloMosaic Idealize.ShloMosaic.TcCoe
open Cert.Passes

variable {F : FTy → Type} [FloatOps F]

/-- One pass of the sort. -/
abbrev sortPass (v0 : IVec S128x128 32) (v : FVec F S128x128 .f32) (ls : Nat × Nat) : FVec F S128x128 .f32 :=
  pass rotates_S128x128_d0 (bitMask v0 (word ls.2)) (bitMask v0 (word (ls.1 + 1))) (word ls.2) (coword ls.2) v

/-- One pass of the merge. -/
abbrev mergePass (v0 : IVec S128x128 32) (v : FVec F S128x128 .f32) (s : Nat) : FVec F S128x128 .f32 :=
  pass rotates_S128x128_d0 (bitMask v0 (word s)) (broadcast S128x128 1#1) (word s) (coword s) v

/-- The tile a trip reads, transposed: a column per row of the scores. -/
def turned (t : Vec F S1x128x128 .f32) : FVec F S128x128 .f32 :=
  transpose S128x128 [1, 0] (shapeCast S128x128 t shapeCasts_S1x128x128_S128x128) transposes_S128x128_p1_0_S128x128

variable (v0 : IVec S128x128 32) (t : Vec F S1x128x128 .f32) (w run a b : FVec F S128x128 .f32) (k : IVec S128x128 1)

theorem part1_passes : k0_pay7 v0 t = [(0, 0), (1, 1)].foldl (sortPass v0) (turned t) := rfl

theorem part2_passes : k0_pay10 v0 (k0_pay6 v0) (k0_pay7 v0 t) (k0_pay8 v0) (k0_pay9 v0 t)
    = [(1, 0), (2, 2), (2, 1), (2, 0)].foldl (sortPass v0) (k0_pay7 v0 t) := by
  unfold k0_pay9
  generalize k0_pay7 v0 t = w
  rfl

theorem part3_passes : select (k0_pay17 v0 (k0_pay11 v0) k0_pay12) (k0_pay18 v0 w (k0_pay11 v0) k0_pay12) (k0_pay19 v0 w (k0_pay11 v0) k0_pay12)
    = [(3, 3), (3, 2), (3, 1), (3, 0)].foldl (sortPass v0) w := rfl

theorem part4_passes : k0_pay21 v0 k a b = [(4, 4), (4, 3), (4, 2)].foldl (sortPass v0) (select k a b) := rfl

theorem part5_passes : k0_pay25 v0 (k0_pay20 v0) (k0_pay21 v0 k a b) (k0_pay22 v0) (k0_pay23 v0 k a b)
    = [(4, 1), (4, 0), (5, 5), (5, 4)].foldl (sortPass v0) (k0_pay21 v0 k a b) := by
  unfold k0_pay23
  generalize k0_pay21 v0 k a b = w
  rfl

theorem part6_passes : k0_pay27 v0 (k0_pay24 v0) w k0_pay26 = [(5, 3), (5, 2), (5, 1), (5, 0)].foldl (sortPass v0) w := rfl

theorem part7_passes : k0_pay30 v0 w k0_pay28 = [(6, 6), (6, 5), (6, 4)].foldl (sortPass v0) w := rfl

theorem part8_passes : k0_pay33 v0 (k0_pay29 v0 k0_pay28) (k0_pay30 v0 w k0_pay28) (k0_pay31 v0) (k0_pay32 v0 w k0_pay28) run
    = maximumf run ([(6, 3), (6, 2), (6, 1), (6, 0)].foldl (sortPass v0) (k0_pay30 v0 w k0_pay28)) := by
  unfold k0_pay32
  generalize k0_pay30 v0 w k0_pay28 = w
  rfl

theorem part9_passes : select (k0_pay40 v0) (k0_pay41 v0 w k0_pay34 (k0_pay35 v0) k0_pay36) (k0_pay42 v0 w k0_pay34 (k0_pay35 v0) k0_pay36)
    = [6, 5, 4, 3].foldl (mergePass v0) w := rfl

theorem part10_passes : k0_pay4 (k0_pay46 v0) (k0_pay47 v0 k a b) (k0_pay48 v0 k a b) = [2, 1, 0].foldl (mergePass v0) (select k a b) := by
  unfold k0_pay4
  dsimp only
  rw [shapeCast_self]
  rfl

/-- What the trip's parts hand each other, up to the value stored. -/
def tripValue (v0 : IVec S128x128 32) (t : Vec F S1x128x128 .f32) (run : FVec F S128x128 .f32) : FVec F S128x128 .f32 :=
  let w2 := k0_pay10 v0 (k0_pay6 v0) (k0_pay7 v0 t) (k0_pay8 v0) (k0_pay9 v0 t)
  let k3 := k0_pay17 v0 (k0_pay11 v0) k0_pay12
  let a3 := k0_pay18 v0 w2 (k0_pay11 v0) k0_pay12
  let b3 := k0_pay19 v0 w2 (k0_pay11 v0) k0_pay12
  let w5 := k0_pay25 v0 (k0_pay20 v0) (k0_pay21 v0 k3 a3 b3) (k0_pay22 v0) (k0_pay23 v0 k3 a3 b3)
  let w6 := k0_pay27 v0 (k0_pay24 v0) w5 k0_pay26
  let w8 := k0_pay33 v0 (k0_pay29 v0 k0_pay28) (k0_pay30 v0 w6 k0_pay28) (k0_pay31 v0) (k0_pay32 v0 w6 k0_pay28) run
  let k9 := k0_pay40 v0
  let a9 := k0_pay41 v0 w8 k0_pay34 (k0_pay35 v0) k0_pay36
  let b9 := k0_pay42 v0 w8 k0_pay34 (k0_pay35 v0) k0_pay36
  k0_pay4 (k0_pay46 v0) (k0_pay47 v0 k9 a9 b9) (k0_pay48 v0 k9 a9 b9)

/-- THE TRIP'S VALUE: the new tile, transposed, folded into the running tile. -/
theorem trip_value : tripValue v0 t run = foldTile rotates_S128x128_d0 v0 run (turned t) := by
  unfold tripValue
  dsimp only
  rw [part10_passes, part9_passes, part8_passes, part7_passes, part6_passes, part5_passes, part4_passes, part3_passes, part2_passes, part1_passes]
  rfl

end Cert.KernelIdeal.Gen
-- ==== Proof.LoopValue.lean ====
/-
  THE LOOP OF ONE GRID POINT. A point writes its 16 tiles of scores into one buffer and then folds them, one a trip, into the running tile.
  `loop_pieces`: after `k + 1` trips the last store holds `loopVal (k + 1)`, the fold of the first `k + 1` tiles into what the running buffer held
  before the loop.
-/
module

public import proofs.«01_k».proof.Proof.TripValue
public import proofs.«01_k».proof.Proof.Gen.KernelIdeal.Value
public import Idealize.ShloMosaic.Lib.ValueIdx
public import Idealize.ShloMosaic.Lib.VecWindow

@[expose] public section

set_option maxHeartbeats 1000000

noncomputable section

namespace Cert.KernelIdeal.Gen

open Idealize.ShloMosaic Idealize.ShloMosaic.TcCoe Idealize.ShloMosaic.Tactic Idealize.ShloMosaic.ValueIdx
open Idealize.SL Idealize.SL.Sem
open Cert.Passes

variable {F : FTy → Type} [FloatOps F]

/-- The positions down a column. -/
abbrev rowIota : IVec S128x128 32 := iota Kind.tc S128x128 32 [0] iota_S128x128_d0_w32

/-- The buffer of 16 tiles, from the four chunks of scores: tile `k` is columns `128·(k % 4)` to `128·(k % 4) + 127` of chunk `k / 4`. -/
def slabs (f : Nat → FVec F S128x512 .f32) : FVec F S16x128x128 .f32 := fun y =>
  f ((y 0).val / 4) (ValueIdx.ix2 (y 1) ⟨128 * ((y 0).val % 4) + (y 2).val, by
    have h := (y 2).isLt
    change (y 2).val < 128 at h
    change _ < 512
    omega⟩)

theorem slabs_apply (f : Nat → FVec F S128x512 .f32) (y : S16x128x128.Idx) (k : Nat) (r j : Fin 128) (h0 : (y 0).val = k) (h1 : (y 1).val = r.val)
    (h2 : (y 2).val = j.val) : slabs f y = f (k / 4) (ValueIdx.ix2 r ⟨128 * (k % 4) + j.val, by omega⟩) := by
  subst h0
  obtain rfl : y 1 = r := Fin.ext h1
  obtain rfl : y 2 = j := Fin.ext h2
  rfl

/-- Tile `k` with a column per row of the scores. -/
def scoreTile (f : Nat → FVec F S128x512 .f32) (k : Nat) : FVec F S128x128 .f32 := fun y =>
  f (k / 4) (ValueIdx.ix2 (y 1) ⟨128 * (k % 4) + (y 0).val, by
    have h := (y 0).isLt
    change (y 0).val < 128 at h
    change _ < 512
    omega⟩)

/-- The running tile after `k` tiles. -/
def loopVal (f : Nat → FVec F S128x512 .f32) (R : FVec F S128x128 .f32) : Nat → FVec F S128x128 .f32
  | 0 => R
  | k + 1 => foldTile rotates_S128x128_d0 rowIota (loopVal f R k) (scoreTile f k)

section Loop

variable (𝒱 : Variants) (c : Dev nD) (bd : Option 𝒱.V) (i : grid0.Coords) (arg1 : Memref sig .tc .vmem S128x1024 .bf16) (harg1 : arg1.IsWhole)
  (arg2 : Memref sig .tc .vmem S2048x512 .i8) (harg2 : arg2.IsWhole) (arg3 : Memref sig .tc .vmem S1x2048 .f32) (harg3 : arg3.IsWhole)
  (arg4 : Memref sig .tc .vmem S1x128x100 .f32) (harg4 : arg4.IsWhole) (arg5 : Memref sig .tc .vmem S128x128 .f32) (harg5 : arg5.IsWhole)
  (arg6 : Memref sig .tc .vmem S16x128x128 .f32) (harg6 : arg6.IsWhole)

/-- A trip stores one whole tile: the trip's value. -/
theorem trip_pieces (v0 : IVec S128x128 32) (X : BufTy.Contents (Elt F) arg6.view.ty) (k : Fin k0_t1_loop.trips)
    (f : BufTy.Contents (Elt F) arg5.view.ty) :
    tripL_k0_t1 (F := F) 𝒱 c bd i arg1 harg1 arg2 harg2 arg3 harg3 arg4 harg4 arg5 harg5 arg6 harg6 v0 X k f
      = [⟨Rect.unit ![0, 0] S128x128.size inb_S128x128_S128x128_0_0,
          tripValue v0 (View.readAt (Elt F) arg6.view (Rect.unit (s := S16x128x128) (k0_off1 k) S1x128x128.size (k0_off1_inb k)).toLoadRect X)
            (View.readAt (Elt F) arg5.view (Rect.unit (s := S128x128) ![0, 0] S128x128.size inb_S128x128_S128x128_0_0).toLoadRect f)⟩] := by
  unfold tripL_k0_t1 trip_k0_t1
  dsimp only
  sl_unfold_words
  unfold tripValue
  dsimp only

/-- The tile trip `k` reads, transposed. -/
theorem turned_read (fc : Nat → FVec F S128x512 .f32) (X : BufTy.Contents (Elt F) arg6.view.ty)
    (hX : arg6.view.read (Elt F) X = slabs fc) (k : Fin k0_t1_loop.trips) :
    turned (View.readAt (Elt F) arg6.view (Rect.unit (s := S16x128x128) (k0_off1 k) S1x128x128.size (k0_off1_inb k)).toLoadRect X)
      = scoreTile fc k.val := by
  have key : ∀ (off : Fin 3 → Nat) (h : off = ![k.val, 0, 0]) (inb : ∀ a, off a + S1x128x128.size a ≤ S16x128x128.size a),
      turned (View.ld (slabs fc) (Rect.unit (s := S16x128x128) off S1x128x128.size inb)) = scoreTile fc k.val := by
    intro off h inb
    subst h
    funext y
    unfold turned
    refine (transpose_apply _ _ _ _ (ValueIdx.ix2 (y 1) (y 0)) (fun b => match b with | ⟨0, _⟩ => rfl | ⟨1, _⟩ => rfl)).trans ?_
    refine (shapeCast_dropUnit_apply ![128, 128] _ _ _).trans ?_
    exact slabs_apply fc _ k.val (y 1) (y 0) (Nat.add_zero _) ((Nat.zero_add _).trans (Nat.one_mul _)) ((Nat.zero_add _).trans (Nat.one_mul _))
  rw [View.readAt_eq_ld, hX]
  exact key _ (k0_off1_eq k) _

/-- AFTER `k + 1` TRIPS the last store is the fold of the first `k + 1` tiles. -/
theorem loop_pieces (fc : Nat → FVec F S128x512 .f32) (X : BufTy.Contents (Elt F) arg6.view.ty) (hX : arg6.view.read (Elt F) X = slabs fc)
    (G : BufTy.Contents (Elt F) arg5.view.ty) (k : Nat) (hk : k < k0_t1_loop.trips) :
    ∃ L, pb_k0_t1 (F := F) 𝒱 c bd i arg1 harg1 arg2 harg2 arg3 harg3 arg4 harg4 arg5 harg5 arg6 harg6 rowIota X G (k + 1)
      = ⟨Rect.unit ![0, 0] S128x128.size inb_S128x128_S128x128_0_0, loopVal fc (arg5.view.read (Elt F) G) (k + 1)⟩ :: L := by
  have step : ∀ (k : Nat) (hk : k < k0_t1_loop.trips),
      arg5.view.read (Elt F) (arg5.view.writes (Elt F) G (pb_k0_t1 (F := F) 𝒱 c bd i arg1 harg1 arg2 harg2 arg3 harg3 arg4 harg4 arg5 harg5 arg6 harg6 rowIota X G k))
        = loopVal fc (arg5.view.read (Elt F) G) k →
      pb_k0_t1 (F := F) 𝒱 c bd i arg1 harg1 arg2 harg2 arg3 harg3 arg4 harg4 arg5 harg5 arg6 harg6 rowIota X G (k + 1)
        = ⟨Rect.unit ![0, 0] S128x128.size inb_S128x128_S128x128_0_0, loopVal fc (arg5.view.read (Elt F) G) (k + 1)⟩
          :: pb_k0_t1 (F := F) 𝒱 c bd i arg1 harg1 arg2 harg2 arg3 harg3 arg4 harg4 arg5 harg5 arg6 harg6 rowIota X G k := by
    intro k hk e
    rw [pb_k0_t1_succ 𝒱 c bd i arg1 harg1 arg2 harg2 arg3 harg3 arg4 harg4 arg5 harg5 arg6 harg6 rowIota X G ⟨k, hk⟩, trip_pieces, trip_value,
      turned_read arg6 fc X hX, View.readAt_full, e]
    rfl
  refine ⟨_, step k hk ?_⟩
  induction k with
  | zero => rfl
  | succ k ih =>
    rw [step k (Nat.lt_of_succ_lt hk) (ih (Nat.lt_of_succ_lt hk))]
    exact View.read_writes_full _ _ _ _ _

end Loop

end Cert.KernelIdeal.Gen
-- ==== Proof.PointValue.lean ====
/-
  WHAT A GRID POINT LEAVES. Each point scores its block of 2048 columns in four chunks of 512, stores the scores as 16 tiles, and folds the tiles
  into the running tile: the first point from minus infinities, the others from what the point before left. The last point also writes the first
  100 rows of the running tile, transposed.
-/
module

public import proofs.«01_k».proof.Proof.LoopValue

@[expose] public section

set_option maxHeartbeats 400000

noncomputable section

namespace Cert.KernelIdeal.Gen

open Idealize.ShloMosaic Idealize.ShloMosaic.TcCoe Idealize.ShloMosaic.Tactic
open Idealize.SL Idealize.SL.Sem
open Cert.Passes

variable {F : FTy → Type} [FloatOps F]

/-- The four chunks of scores of a block. -/
def chunks (x0 : Vec F S128x1024 .bf16) (x1 : Vec F S2048x512 .i8) (x2 : Vec F S1x2048 .f32) : Nat → FVec F S128x512 .f32
  | 0 => k0_pay50 x0 (View.ld x1 (Rect.unit (s := S2048x512) ![0, 0] S512x512.size inb_S2048x512_S512x512_0_0))
      (View.ld x2 (Rect.unit (s := S1x2048) ![0, 0] S1x512.size inb_S1x2048_S1x512_0_0))
  | 1 => k0_pay50 x0 (View.ld x1 (Rect.unit (s := S2048x512) ![512, 0] S512x512.size inb_S2048x512_S512x512_512_0))
      (View.ld x2 (Rect.unit (s := S1x2048) ![0, 512] S1x512.size inb_S1x2048_S1x512_0_512))
  | 2 => k0_pay50 x0 (View.ld x1 (Rect.unit (s := S2048x512) ![1024, 0] S512x512.size inb_S2048x512_S512x512_1024_0))
      (View.ld x2 (Rect.unit (s := S1x2048) ![0, 1024] S1x512.size inb_S1x2048_S1x512_0_1024))
  | _ => k0_pay50 x0 (View.ld x1 (Rect.unit (s := S2048x512) ![1536, 0] S512x512.size inb_S2048x512_S512x512_1536_0))
      (View.ld x2 (Rect.unit (s := S1x2048) ![0, 1536] S1x512.size inb_S1x2048_S1x512_0_1536))

/-- The tile stored from columns `128·q` on of a chunk. -/
abbrev slabVal (v : FVec F S128x512 .f32) (off : Fin 2 → Nat) (h : S128x512.Slices off S128x128) : FVec F S1x128x128 .f32 :=
  shapeCast S1x128x128 (extractStridedSlice S128x128 off v h) shapeCasts_S128x128_S1x128x128

/-- The 16 stores of tiles, the last one first. -/
abbrev slabList (fc : Nat → FVec F S128x512 .f32) : List (View.Piece (Elt F) S16x128x128 .f32) :=
  [⟨Rect.unit (s := S16x128x128) ![15, 0, 0] S1x128x128.size inb_S16x128x128_S1x128x128_15_0_0, slabVal (fc 3) ![0, 384] slices_S128x512_o0_384_S128x128⟩,
    ⟨Rect.unit (s := S16x128x128) ![14, 0, 0] S1x128x128.size inb_S16x128x128_S1x128x128_14_0_0, slabVal (fc 3) ![0, 256] slices_S128x512_o0_256_S128x128⟩,
    ⟨Rect.unit (s := S16x128x128) ![13, 0, 0] S1x128x128.size inb_S16x128x128_S1x128x128_13_0_0, slabVal (fc 3) ![0, 128] slices_S128x512_o0_128_S128x128⟩,
    ⟨Rect.unit (s := S16x128x128) ![12, 0, 0] S1x128x128.size inb_S16x128x128_S1x128x128_12_0_0, slabVal (fc 3) ![0, 0] slices_S128x512_o0_0_S128x128⟩,
    ⟨Rect.unit (s := S16x128x128) ![11, 0, 0] S1x128x128.size inb_S16x128x128_S1x128x128_11_0_0, slabVal (fc 2) ![0, 384] slices_S128x512_o0_384_S128x128⟩,
    ⟨Rect.unit (s := S16x128x128) ![10, 0, 0] S1x128x128.size inb_S16x128x128_S1x128x128_10_0_0, slabVal (fc 2) ![0, 256] slices_S128x512_o0_256_S128x128⟩,
    ⟨Rect.unit (s := S16x128x128) ![9, 0, 0] S1x128x128.size inb_S16x128x128_S1x128x128_9_0_0, slabVal (fc 2) ![0, 128] slices_S128x512_o0_128_S128x128⟩,
    ⟨Rect.unit (s := S16x128x128) ![8, 0, 0] S1x128x128.size inb_S16x128x128_S1x128x128_8_0_0, slabVal (fc 2) ![0, 0] slices_S128x512_o0_0_S128x128⟩,
    ⟨Rect.unit (s := S16x128x128) ![7, 0, 0] S1x128x128.size inb_S16x128x128_S1x128x128_7_0_0, slabVal (fc 1) ![0, 384] slices_S128x512_o0_384_S128x128⟩,
    ⟨Rect.unit (s := S16x128x128) ![6, 0, 0] S1x128x128.size inb_S16x128x128_S1x128x128_6_0_0, slabVal (fc 1) ![0, 256] slices_S128x512_o0_256_S128x128⟩,
    ⟨Rect.unit (s := S16x128x128) ![5, 0, 0] S1x128x128.size inb_S16x128x128_S1x128x128_5_0_0, slabVal (fc 1) ![0, 128] slices_S128x512_o0_128_S128x128⟩,
    ⟨Rect.unit (s := S16x128x128) ![4, 0, 0] S1x128x128.size inb_S16x128x128_S1x128x128_4_0_0, slabVal (fc 1) ![0, 0] slices_S128x512_o0_0_S128x128⟩,
    ⟨Rect.unit (s := S16x128x128) ![3, 0, 0] S1x128x128.size inb_S16x128x128_S1x128x128_3_0_0, slabVal (fc 0) ![0, 384] slices_S128x512_o0_384_S128x128⟩,
    ⟨Rect.unit (s := S16x128x128) ![2, 0, 0] S1x128x128.size inb_S16x128x128_S1x128x128_2_0_0, slabVal (fc 0) ![0, 256] slices_S128x512_o0_256_S128x128⟩,
    ⟨Rect.unit (s := S16x128x128) ![1, 0, 0] S1x128x128.size inb_S16x128x128_S1x128x128_1_0_0, slabVal (fc 0) ![0, 128] slices_S128x512_o0_128_S128x128⟩,
    ⟨Rect.unit (s := S16x128x128) ![0, 0, 0] S1x128x128.size inb_S16x128x128_S1x128x128_0_0_0, slabVal (fc 0) ![0, 0] slices_S128x512_o0_0_S128x128⟩]

/-- A stored tile is its part of the buffer of tiles. -/
theorem slab_piece (fc : Nat → FVec F S128x512 .f32) (c q : Nat) (hq : q < 4) (off3 : Fin 3 → Nat) (h3 : off3 = ![4 * c + q, 0, 0])
    (inb : ∀ a, off3 a + S1x128x128.size a ≤ S16x128x128.size a) (off : Fin 2 → Nat) (h2 : off = ![0, 128 * q]) (h : S128x512.Slices off S128x128)
    (x : S1x128x128.Idx) : slabVal (fc c) off h x = slabs fc ((Rect.unit (s := S16x128x128) off3 S1x128x128.size inb).emb x) := by
  subst h3 h2
  have hx : (x 0).val = 0 := by have := (x 0).isLt; change (x 0).val < 1 at this; omega
  have hc : (4 * c + q) / 4 = c := by omega
  have hm : (4 * c + q) % 4 = q := by omega
  refine (shapeCast_addUnit_apply ![128, 128] _ _ x).trans ?_
  refine Eq.trans ?_ (slabs_apply fc _ (4 * c + q) (x 1) (x 2) (show 4 * c + q + 1 * (x 0).val = 4 * c + q by omega)
    ((Nat.zero_add _).trans (Nat.one_mul _)) ((Nat.zero_add _).trans (Nat.one_mul _))).symm
  refine (extractStridedSlice_apply _ _ _ _ _ (fun a => ?_)).trans (congrArg (fun n => fc n _) hc.symm)
  match a with
  | ⟨0, _⟩ => exact (Nat.zero_add _).symm
  | ⟨1, _⟩ => show 128 * ((4 * c + q) % 4) + (x 2).val = 128 * q + (x 2).val; rw [hm]

/-- The 16 stores fill the buffer of tiles. -/
theorem slabs_read (v : View sig .tc .vmem S16x128x128 .f32) (f : v.ty.Contents (Elt F)) (fc : Nat → FVec F S128x512 .f32) :
    v.read (Elt F) (v.writes (Elt F) f (slabList fc)) = slabs fc := by
  funext y
  refine View.read_writes_apply_of_pieces v f (slabs fc) (slabList fc) ?_ y (View.cover_of_tiledL (slabList fc) S1x128x128.size (by sl_kernel_rfl) y)
  refine List.forall_mem_cons.2 ⟨slab_piece fc 3 3 (by decide) _ (by rfl) inb_S16x128x128_S1x128x128_15_0_0 _ (by rfl) slices_S128x512_o0_384_S128x128, ?_⟩
  refine List.forall_mem_cons.2 ⟨slab_piece fc 3 2 (by decide) _ (by rfl) inb_S16x128x128_S1x128x128_14_0_0 _ (by rfl) slices_S128x512_o0_256_S128x128, ?_⟩
  refine List.forall_mem_cons.2 ⟨slab_piece fc 3 1 (by decide) _ (by rfl) inb_S16x128x128_S1x128x128_13_0_0 _ (by rfl) slices_S128x512_o0_128_S128x128, ?_⟩
  refine List.forall_mem_cons.2 ⟨slab_piece fc 3 0 (by decide) _ (by rfl) inb_S16x128x128_S1x128x128_12_0_0 _ (by rfl) slices_S128x512_o0_0_S128x128, ?_⟩
  refine List.forall_mem_cons.2 ⟨slab_piece fc 2 3 (by decide) _ (by rfl) inb_S16x128x128_S1x128x128_11_0_0 _ (by rfl) slices_S128x512_o0_384_S128x128, ?_⟩
  refine List.forall_mem_cons.2 ⟨slab_piece fc 2 2 (by decide) _ (by rfl) inb_S16x128x128_S1x128x128_10_0_0 _ (by rfl) slices_S128x512_o0_256_S128x128, ?_⟩
  refine List.forall_mem_cons.2 ⟨slab_piece fc 2 1 (by decide) _ (by rfl) inb_S16x128x128_S1x128x128_9_0_0 _ (by rfl) slices_S128x512_o0_128_S128x128, ?_⟩
  refine List.forall_mem_cons.2 ⟨slab_piece fc 2 0 (by decide) _ (by rfl) inb_S16x128x128_S1x128x128_8_0_0 _ (by rfl) slices_S128x512_o0_0_S128x128, ?_⟩
  refine List.forall_mem_cons.2 ⟨slab_piece fc 1 3 (by decide) _ (by rfl) inb_S16x128x128_S1x128x128_7_0_0 _ (by rfl) slices_S128x512_o0_384_S128x128, ?_⟩
  refine List.forall_mem_cons.2 ⟨slab_piece fc 1 2 (by decide) _ (by rfl) inb_S16x128x128_S1x128x128_6_0_0 _ (by rfl) slices_S128x512_o0_256_S128x128, ?_⟩
  refine List.forall_mem_cons.2 ⟨slab_piece fc 1 1 (by decide) _ (by rfl) inb_S16x128x128_S1x128x128_5_0_0 _ (by rfl) slices_S128x512_o0_128_S128x128, ?_⟩
  refine List.forall_mem_cons.2 ⟨slab_piece fc 1 0 (by decide) _ (by rfl) inb_S16x128x128_S1x128x128_4_0_0 _ (by rfl) slices_S128x512_o0_0_S128x128, ?_⟩
  refine List.forall_mem_cons.2 ⟨slab_piece fc 0 3 (by decide) _ (by rfl) inb_S16x128x128_S1x128x128_3_0_0 _ (by rfl) slices_S128x512_o0_384_S128x128, ?_⟩
  refine List.forall_mem_cons.2 ⟨slab_piece fc 0 2 (by decide) _ (by rfl) inb_S16x128x128_S1x128x128_2_0_0 _ (by rfl) slices_S128x512_o0_256_S128x128, ?_⟩
  refine List.forall_mem_cons.2 ⟨slab_piece fc 0 1 (by decide) _ (by rfl) inb_S16x128x128_S1x128x128_1_0_0 _ (by rfl) slices_S128x512_o0_128_S128x128, ?_⟩
  refine List.forall_mem_cons.2 ⟨slab_piece fc 0 0 (by decide) _ (by rfl) inb_S16x128x128_S1x128x128_0_0_0 _ (by rfl) slices_S128x512_o0_0_S128x128, ?_⟩
  exact fun p hp => absurd hp List.not_mem_nil

section Points

variable (c : Dev nD) (i : grid0.Coords) (arg1 : Memref sig .tc .vmem S128x1024 .bf16) (harg1 : arg1.IsWhole)
  (arg2 : Memref sig .tc .vmem S2048x512 .i8) (harg2 : arg2.IsWhole) (arg3 : Memref sig .tc .vmem S1x2048 .f32) (harg3 : arg3.IsWhole)
  (arg4 : Memref sig .tc .vmem S1x128x100 .f32) (harg4 : arg4.IsWhole) (arg5 : Memref sig .tc .vmem S128x128 .f32) (harg5 : arg5.IsWhole)
  (arg6 : Memref sig .tc .vmem S16x128x128 .f32) (harg6 : arg6.IsWhole)
  (x0 : Vec F S128x1024 .bf16) (x1 : Vec F S2048x512 .i8) (x2 : Vec F S1x2048 .f32) (xs0 : Vec F S128x128 .f32)

private theorem hz2 : (![0, 0] : Fin 2 → Nat) = fun _ => 0 := by decide
private theorem hz3 : (![0, 0, 0] : Fin 3 → Nat) = fun _ => 0 := by decide

theorem trips16 : k0_t1_loop.trips = 16 := by decide

/-- A middle point leaves the fold of its 16 tiles into what it found. -/
theorem sout_B (hc0 : ¬cond0_0 i) (hc1 : ¬cond0_1 i) :
    sout0_B_0 (F := F) c i arg1 harg1 arg2 harg2 arg3 harg3 arg4 harg4 arg5 harg5 arg6 harg6 hc0 hc1 x0 x1 x2 xs0 = loopVal (chunks x0 x1 x2) xs0 16 := by
  unfold sout0_B_0 kernelRun0_B
  dsimp only
  sl_unfold_words
  simp only [View.readAt_eq_ld, harg1.read_unread, harg2.read_unread, harg3.read_unread, View.ld_unit_zero (S := S128x1024) hz2]
  obtain ⟨L, hL⟩ := loop_pieces Variants.none c none i arg1 harg1 arg2 harg2 arg3 harg3 arg4 harg4 arg5 harg5 arg6 harg6 (chunks x0 x1 x2)
    (arg6.view.writes (Elt F) arg6.view.junk (slabList (chunks x0 x1 x2))) (slabs_read _ _ _) (harg5.unread xs0) 15 (by decide)
  rw [harg5.read_unread] at hL
  refine Eq.trans (congrArg (fun p => VS0_0.read (Elt F) (VS0_0.writes (Elt F) VS0_0.junk p)) hL) ?_
  exact View.read_writes_full _ _ _ _ _

/-- The first point leaves the fold of its 16 tiles into minus infinities. -/
theorem sout_A (hc0 : cond0_0 i) (hc1 : ¬cond0_1 i) :
    sout0_A_0 (F := F) c i arg1 harg1 arg2 harg2 arg3 harg3 arg4 harg4 arg5 harg5 arg6 harg6 hc0 hc1 x0 x1 x2 = loopVal (chunks x0 x1 x2) k0_pay49 16 := by
  unfold sout0_A_0 kernelRun0_A
  dsimp only
  sl_unfold_words
  simp only [View.readAt_eq_ld, harg1.read_unread, harg2.read_unread, harg3.read_unread, View.ld_unit_zero (S := S128x1024) hz2]
  obtain ⟨L, hL⟩ := loop_pieces Variants.none c none i arg1 harg1 arg2 harg2 arg3 harg3 arg4 harg4 arg5 harg5 arg6 harg6 (chunks x0 x1 x2)
    (arg6.view.writes (Elt F) arg6.view.junk (slabList (chunks x0 x1 x2))) (slabs_read _ _ _)
    (arg5.view.writes (Elt F) arg5.view.junk [⟨Rect.unit ![0, 0] S128x128.size inb_S128x128_S128x128_0_0, k0_pay49⟩]) 15 (by decide)
  rw [View.read_writes_full] at hL
  refine Eq.trans (congrArg (fun p => VS0_0.read (Elt F) (VS0_0.writes (Elt F) VS0_0.junk
    (p ++ [⟨Rect.unit ![0, 0] S128x128.size inb_S128x128_S128x128_0_0, k0_pay49⟩]))) hL) ?_
  exact View.read_writes_full _ _ _ _ _

/-- What the last point writes: the first 100 rows of the running tile, transposed. -/
theorem out_C (hc0 : ¬cond0_0 i) (hc1 : cond0_1 i) :
    out0_C_3 (F := F) c i arg1 harg1 arg2 harg2 arg3 harg3 arg4 harg4 arg5 harg5 arg6 harg6 hc0 hc1 x0 x1 x2 xs0 = k0_pay5 (loopVal (chunks x0 x1 x2) xs0 16) := by
  unfold out0_C_3 kernelRun0_C
  dsimp only
  sl_unfold_words
  simp only [View.readAt_eq_ld, harg1.read_unread, harg2.read_unread, harg3.read_unread, View.ld_unit_zero (S := S128x1024) hz2, View.ld_unit_zero (S := S128x128) hz2]
  obtain ⟨L, hL⟩ := loop_pieces Variants.none c none i arg1 harg1 arg2 harg2 arg3 harg3 arg4 harg4 arg5 harg5 arg6 harg6 (chunks x0 x1 x2)
    (arg6.view.writes (Elt F) arg6.view.junk (slabList (chunks x0 x1 x2))) (slabs_read _ _ _) (harg5.unread xs0) 15 (by decide)
  rw [harg5.read_unread] at hL
  refine (View.read_writes_full _ _ _ _ _).trans (congrArg k0_pay5 ?_)
  refine Eq.trans (congrArg (fun p => arg5.view.read (Elt F) (arg5.view.writes (Elt F) (harg5.unread xs0) p)) hL) ?_
  exact View.read_writes_full _ _ _ _ _

end Points

end Cert.KernelIdeal.Gen
-- ==== Proof.KernelScore.lean ====
/-
  THE KERNEL'S SCORES. A chunk of scores read at (row, column) over the extended reals: the row's score against that row of bytes, times its
  scale.
-/
module

public import proofs.«01_k».proof.Proof.Nibbles
public import proofs.«01_k».proof.Proof.PointValue

@[expose] public section

noncomputable section

namespace Cert.KernelIdeal.Gen

open Idealize.ShloMosaic
open Cert.Score

/-- A chunk's score. -/
theorem chunk_score (x : FVec Ideal S128x1024 .bf16) (w : IVec S512x512 8) (s : FVec Ideal S1x512 .f32) (r : Fin 128) (j : Fin 512) :
    k0_pay50 (F := Ideal) x w s (ix2 r j) = pairScore x w r j * s (ix2 0 j) := by
  pointwise [k0_pay50]
  rw [sum_even_odd]
  have hl : ∀ d : Fin 512, 2 * d.val % 2 < 1 := fun d => by omega
  have hh : ∀ d : Fin 512, ¬(2 * d.val + 1) % 2 < 1 := fun d => by omega
  have h2 : ∀ d : Fin 512, (2 * d.val) / 2 = d.val := fun d => by omega
  have h3 : ∀ d : Fin 512, (2 * d.val + 1) / 2 = d.val := fun d => by omega
  simp only [hl, hh, h2, h3, dite_true, dite_false, Fin.eta]
  refine congrArg (· * s (ix2 0 j)) (congrArg₂ (· + ·) (Finset.sum_congr rfl fun d _ => ?_) (Finset.sum_congr rfl fun d _ => ?_))
  · rw [← low_shift]; rfl
  · rw [← high_shift]; rfl

end Cert.KernelIdeal.Gen

end
-- ==== Proof.BlockScore.lean ====
/-
  A BLOCK'S SCORES. What the windows stage at a grid point, in terms of the arguments, and so what a point's four chunks of scores are: point `t`
  scores columns `2048·t` to `2048·t + 2047`.
-/
module

public import proofs.«01_k».proof.Proof.KernelScore

@[expose] public section

set_option maxHeartbeats 400000

noncomputable section

namespace Cert.KernelIdeal.Gen

open Idealize.ShloMosaic Idealize.ShloMosaic.TcCoe Idealize.ShloMosaic.StableHlo
open Idealize.SL Idealize.SL.Sem
open Cert.Score

variable (m : (ℓ : Loc nD τ sig) → Buf (Elt Ideal) ℓ) (c : Dev nD)

/-- The rows, a matrix. -/
abbrev rowsX : FVec Ideal S128x1024 .bf16 :=
  shapeCast S128x1024 (m ((c.tc : Thread nD τ).loc main_arg0) : FVec Ideal S1x128x1024 .bf16) shapeCasts_S1x128x1024_S128x1024

/-- The bytes. -/
abbrev bytesW : IVec S360448x512 8 := m ((c.tc : Thread nD τ).loc main_arg1)

/-- The scales. -/
abbrev scalesS : FVec Ideal S360448 .f32 := m ((c.tc : Thread nD τ).loc main_arg2)

/-- Row `r`'s score of column `n`. -/
def score (r : Fin 128) (n : Nat) : EReal :=
  if h : n < 360448 then pairScore (rowsX m c) (bytesW m c) r ⟨n, h⟩ * scalesS m c (ix1 ⟨n, h⟩) else ⊥

theorem V_main_v0 : V m c main_v0 = rowsX m c := by
  unfold V hostOps0
  after_results_simp
  rfl

theorem V_main_v1 : V m c main_v1 = shapeCast S1x360448 (scalesS m c) shapeCasts_S360448_S1x360448 := by
  unfold V hostOps0
  after_results_simp
  rfl

/-- Where each window's block lies at a point. -/
theorem window_index : ∀ t : Fin cfg0.N, (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = t.val) :=
  (by decide +kernel : ∀ t : Fin grid0.N, _)

theorem iblk_rows (t : Fin cfg0.N) : (iblk m c 0 t : Vec Ideal S128x1024 .bf16) = rowsX m c := by
  have hi := (window_index t).1
  funext j
  unfold iblk
  rw [View.read_apply]
  show V m c main_v0 _ = _
  rw [V_main_v0]
  congr 1
  funext a
  apply Fin.ext
  match a with
  | ⟨0, _⟩ => show win0_0.index t 0 * 128 + 1 * (j 0).val = (j 0).val; rw [hi.1]; omega
  | ⟨1, _⟩ => show win0_0.index t 1 * 1024 + 1 * (j 1).val = (j 1).val; rw [hi.2]; omega

theorem point_lt (t : Fin cfg0.N) : t.val < 176 := lt_of_lt_of_eq t.isLt (show cfg0.N = 176 from N_0)

theorem iblk_bytes (t : Fin cfg0.N) (a : Fin 2048) (d : Fin 512) : (iblk m c 1 t : Vec Ideal S2048x512 .i8) (ix2 a d)
    = bytesW m c (ix2 ⟨2048 * t.val + a.val, by have := point_lt t; omega⟩ d) := by
  have hi := (window_index t).2.1
  unfold iblk
  rw [View.read_apply]
  show V m c main_arg1 _ = _
  rw [V_main_arg1]
  congr 1
  funext b
  apply Fin.ext
  match b with
  | ⟨0, _⟩ => show win0_1.index t 0 * 2048 + 1 * a.val = 2048 * t.val + a.val; rw [hi.1]; omega
  | ⟨1, _⟩ => show win0_1.index t 1 * 512 + 1 * d.val = d.val; rw [hi.2]; omega

theorem iblk_scales (t : Fin cfg0.N) (a : Fin 2048) : (iblk m c 2 t : Vec Ideal S1x2048 .f32) (ix2 0 a)
    = scalesS m c (ix1 ⟨2048 * t.val + a.val, by have := point_lt t; omega⟩) := by
  have hi := (window_index t).2.2
  have hp := point_lt t
  unfold iblk
  rw [View.read_apply]
  show V m c main_v1 _ = _
  rw [V_main_v1]
  refine Eq.trans (congrArg _ (?_ : _ = ix2 0 (⟨2048 * t.val + a.val, by omega⟩ : Fin 360448))) ?_
  · funext b
    apply Fin.ext
    match b with
    | ⟨0, _⟩ => show win0_2.index t 0 * 1 + 1 * 0 = 0; rw [hi.1]
    | ⟨1, _⟩ => show win0_2.index t 1 * 2048 + 1 * a.val = 2048 * t.val + a.val; rw [hi.2]; omega
  · pointwise

/-- A chunk at offset `o` of point `t`'s block. -/
theorem chunk_at (t : Fin cfg0.N) (o : Nat) (ho : o + 512 ≤ 2048)
    (h1 : ∀ a, (![o, 0] : Fin 2 → Nat) a + S512x512.size a ≤ S2048x512.size a)
    (h2 : ∀ a, (![0, o] : Fin 2 → Nat) a + S1x512.size a ≤ S1x2048.size a) (r : Fin 128) (j : Fin 512) :
    k0_pay50 (F := Ideal) (iblk m c 0 t) (View.ld (iblk m c 1 t : Vec Ideal S2048x512 .i8) (Rect.unit (s := S2048x512) ![o, 0] S512x512.size h1))
      (View.ld (iblk m c 2 t : Vec Ideal S1x2048 .f32) (Rect.unit (s := S1x2048) ![0, o] S1x512.size h2)) (ix2 r j)
      = score m c r (2048 * t.val + o + j.val) := by
  have hp := point_lt t
  have hn : 2048 * t.val + o + j.val < 360448 := by omega
  have e1 : ∀ d : Fin 512, View.ld (iblk m c 1 t : Vec Ideal S2048x512 .i8) (Rect.unit (s := S2048x512) ![o, 0] S512x512.size h1) (ix2 j d)
      = bytesW m c (ix2 ⟨2048 * t.val + o + j.val, hn⟩ d) := fun d => by
    refine Eq.trans (congrArg (iblk m c 1 t : Vec Ideal S2048x512 .i8) (?_ : _ = ix2 (⟨o + j.val, by omega⟩ : Fin 2048) d)) ?_
    · funext b
      apply Fin.ext
      match b with
      | ⟨0, _⟩ => show o + 1 * j.val = o + j.val; omega
      | ⟨1, _⟩ => show 0 + 1 * d.val = d.val; omega
    · rw [iblk_bytes]
      congr 2
      apply Fin.ext
      show 2048 * t.val + (o + j.val) = 2048 * t.val + o + j.val
      omega
  have e2 : View.ld (iblk m c 2 t : Vec Ideal S1x2048 .f32) (Rect.unit (s := S1x2048) ![0, o] S1x512.size h2) (ix2 0 j)
      = scalesS m c (ix1 ⟨2048 * t.val + o + j.val, hn⟩) := by
    refine Eq.trans (congrArg (iblk m c 2 t : Vec Ideal S1x2048 .f32) (?_ : _ = ix2 0 (⟨o + j.val, by omega⟩ : Fin 2048))) ?_
    · funext b
      apply Fin.ext
      match b with
      | ⟨0, _⟩ => rfl
      | ⟨1, _⟩ => show o + 1 * j.val = o + j.val; omega
    · rw [iblk_scales]
      congr 2
      apply Fin.ext
      show 2048 * t.val + (o + j.val) = 2048 * t.val + o + j.val
      omega
  rw [iblk_rows, chunk_score, e2]
  unfold score
  rw [dif_pos hn]
  unfold pairScore
  simp only [e1]

/-- The four chunks of point `t`'s block. -/
theorem chunks_at (t : Fin cfg0.N) (q : Nat) (hq : q < 4) (r : Fin 128) (j : Fin 512) :
    chunks (F := Ideal) (iblk m c 0 t) (iblk m c 1 t) (iblk m c 2 t) q (ix2 r j) = score m c r (2048 * t.val + 512 * q + j.val) := by
  match q, hq with
  | 0, _ => exact chunk_at m c t 0 (by omega) _ _ r j
  | 1, _ => exact chunk_at m c t 512 (by omega) _ _ r j
  | 2, _ => exact chunk_at m c t 1024 (by omega) _ _ r j
  | 3, _ => exact chunk_at m c t 1536 (by omega) _ _ r j

end Cert.KernelIdeal.Gen

end
-- ==== Proof.Accumulate.lean ====
/-
  THE RUNNING TILE. Column `r` of the running tile holds, descending, the 128 greatest of 128 minus infinities and the scores of row `r` taken in
  so far: through the 16 tiles of a point (`loop_col`), and point after point (`run_col`). What the call returns is the first 100 of each column
  after the last point (`result_row`).
-/
module

public import proofs.«01_k».proof.Proof.BlockScore

@[expose] public section

set_option maxHeartbeats 400000

noncomputable section

namespace Cert.KernelIdeal.Gen

open Idealize.ShloMosaic Idealize.ShloMosaic.TcCoe Idealize.ShloMosaic.SortNet
open Idealize.SL Idealize.SL.Sem
open Cert.Score Cert.Passes

/-- Column `r` of a tile. -/
abbrev column (v : FVec Ideal S128x128 .f32) (r : Fin 128) : Fin (2 ^ 7) → EReal := fun i => v ((colAt r).col i)

theorem rowIota_col (r : Fin 128) (i : Fin (2 ^ 7)) : rowIota ((colAt r).col i) = BitVec.ofNat 32 i.val := by
  show rowIota (ix2 (n0 := 128) i r) = _
  pointwise

theorem map_range_eq_ofFn (n : Nat) (g : Nat → EReal) : (List.range n).map g = List.ofFn fun i : Fin n => g i.val := by
  refine List.ext_getElem (by simp) fun i h1 h2 => ?_
  rw [List.getElem_map, List.getElem_range, List.getElem_ofFn]

/-- The 16 tiles of a point, folded in. -/
theorem loop_col (f : Nat → FVec Ideal S128x512 .f32) (R : FVec Ideal S128x128 .f32) (s : Nat → EReal) (r : Fin 128)
    (A : List EReal) (hR : Antitone (column R r)) (hA : List.ofFn (column R r) = topList (2 ^ 7) A)
    (hf : ∀ q < 4, ∀ j : Fin 512, f q (ix2 r j) = s (512 * q + j.val)) :
    ∀ k ≤ 16, Antitone (column (loopVal f R k) r)
      ∧ List.ofFn (column (loopVal f R k) r) = topList (2 ^ 7) (A ++ (List.range (128 * k)).map s)
  | 0, _ => ⟨hR, by rw [Nat.mul_zero, List.range_zero, List.map_nil, List.append_nil]; exact hA⟩
  | k + 1, hk => by
    obtain ⟨h1, h2⟩ := loop_col f R s r A hR hA hf k (by omega)
    obtain ⟨h3, h4⟩ := foldTile_col rotates_S128x128_d0 rowIota r (rowIota_col r) (loopVal f R k) (scoreTile f k) h1
    refine ⟨h3, h4.trans ?_⟩
    have hnew : (List.ofFn fun i : Fin (2 ^ 7) => scoreTile f k ((colAt r).col i)) = (List.range 128).map fun i => s (128 * k + i) := by
      have e : ∀ i : Fin (2 ^ 7), scoreTile f k ((colAt r).col i) = s (128 * k + i.val) := fun i => by
        have hi : i.val < 128 := i.isLt
        show f (k / 4) (ValueIdx.ix2 r (⟨128 * (k % 4) + i.val, _⟩ : Fin 512)) = _
        rw [← ix2_eq_valueIdx, hf (k / 4) (by omega)]
        congr 1
        show 512 * (k / 4) + (128 * (k % 4) + i.val) = _
        omega
      rw [map_range_eq_ofFn]
      exact congrArg List.ofFn (funext e)
    rw [hnew]
    show topList (2 ^ 7) (List.ofFn (column (loopVal f R k) r) ++ _) = _
    rw [h2, topList_append_topList, List.append_assoc, Nat.mul_succ, List.range_add, List.map_append, List.map_map]
    rfl

variable (m : (ℓ : Loc nD τ sig) → Buf (Elt Ideal) ℓ) (c : Dev nD)

/-- The running tile after point `n`, in terms of the one before. -/
theorem run_step (n : Nat) (hn : n + 1 < cfg0.N) (h : n + 1 < 175) : (outsAt0 m c (n + 1) hn).2
    = loopVal (chunks (iblk m c 0 ⟨n + 1, hn⟩) (iblk m c 1 ⟨n + 1, hn⟩) (iblk m c 2 ⟨n + 1, hn⟩)) (outsAt0 m c n (Nat.lt_of_succ_lt hn)).2 16 := by
  rw [Value.outsAt0_succ, Value.stAt0_B m c ⟨n + 1, hn⟩ _ (by show ¬(n + 1) % 176 = 0; omega) (by show ¬(n + 1) % 176 = 175; omega)]
  exact sout_B (F := Ideal) _ _ _ _ _ _ _ _ _ _ _ _ _ _ _ _ _ _ _ _

theorem run_first (hn : 0 < cfg0.N) : (outsAt0 m c 0 hn).2
    = loopVal (chunks (iblk m c 0 ⟨0, hn⟩) (iblk m c 1 ⟨0, hn⟩) (iblk m c 2 ⟨0, hn⟩)) k0_pay49 16 := by
  rw [Value.outsAt0_zero, Value.stAt0_A m c ⟨0, hn⟩ _ (Nat.zero_mod _) (by show ¬0 % 176 = 175; omega)]
  exact sout_A (F := Ideal) _ _ _ _ _ _ _ _ _ _ _ _ _ _ _ _ _ _ _

theorem result_last (hn : 174 + 1 < cfg0.N) : (outsAt0 m c (174 + 1) hn).1
    = k0_pay5 (loopVal (chunks (iblk m c 0 ⟨175, hn⟩) (iblk m c 1 ⟨175, hn⟩) (iblk m c 2 ⟨175, hn⟩)) (outsAt0 m c 174 (Nat.lt_of_succ_lt hn)).2 16) := by
  rw [Value.outsAt0_succ, Value.stAt0_C m c ⟨174 + 1, hn⟩ _ (by show ¬(174 + 1) % 176 = 0; omega) (by show (174 + 1) % 176 = 175; omega)]
  dsimp only
  rw [out_C]

/-- 128 minus infinities. -/
abbrev blank : List EReal := List.replicate (2 ^ 7) ⊥

theorem start_col (r : Fin 128) : column (k0_pay49 (F := Ideal)) r = fun _ => ⊥ := by
  funext i
  show Ideal.ofBits .f32 0xFF800000#32 = ⊥
  simp [Ideal.ofBits, Ideal.ieee]

/-- A point takes its 2048 scores of row `r` in. -/
theorem point_col (t : Fin cfg0.N) (R : FVec Ideal S128x128 .f32) (r : Fin 128) (hR : Antitone (column R r))
    (hA : List.ofFn (column R r) = topList (2 ^ 7) (blank ++ (List.range (2048 * t.val)).map (score m c r))) :
    Antitone (column (loopVal (chunks (iblk m c 0 t) (iblk m c 1 t) (iblk m c 2 t)) R 16) r)
      ∧ List.ofFn (column (loopVal (chunks (iblk m c 0 t) (iblk m c 1 t) (iblk m c 2 t)) R 16) r)
        = topList (2 ^ 7) (blank ++ (List.range (2048 * (t.val + 1))).map (score m c r)) := by
  obtain ⟨h1, h2⟩ := loop_col (chunks (iblk m c 0 t) (iblk m c 1 t) (iblk m c 2 t)) R (fun n => score m c r (2048 * t.val + n)) r _ hR hA
    (fun q hq j => by rw [chunks_at m c t q hq r j, Nat.add_assoc]) 16 le_rfl
  refine ⟨h1, h2.trans ?_⟩
  rw [show 2048 * (t.val + 1) = 2048 * t.val + 128 * 16 by omega, List.range_add (n := 2048 * t.val), List.map_append, List.map_map,
    List.append_assoc]
  rfl

/-- After point `n`. -/
theorem run_col (r : Fin 128) : ∀ (n : Nat) (hn : n < cfg0.N) (_ : n < 175), Antitone (column (outsAt0 m c n hn).2 r)
    ∧ List.ofFn (column (outsAt0 m c n hn).2 r) = topList (2 ^ 7) (blank ++ (List.range (2048 * (n + 1))).map (score m c r))
  | 0, hn, _ => by
    rw [run_first]
    refine point_col m c ⟨0, hn⟩ k0_pay49 r (by rw [start_col]; exact antitone_const) ?_
    rw [start_col]
    simp only [Nat.mul_zero, List.range_zero, List.map_nil, List.append_nil, List.ofFn_const]
    exact (topList_eq_self (List.pairwise_replicate.2 (Or.inr le_rfl)) (by simp)).symm
  | n + 1, hn, h => by
    obtain ⟨h1, h2⟩ := run_col r n (Nat.lt_of_succ_lt hn) (by omega)
    rw [run_step m c n hn h]
    exact point_col m c ⟨n + 1, hn⟩ _ r h1 h2

/-- The result's row `r`: the 100 greatest scores of the row, descending. -/
theorem result_row (r : Fin 128) : (List.ofFn fun j : Fin 100 => (Value.G3 m c : FVec Ideal S1x128x100 .f32) (ix3 0 r j))
    = topList 100 ((List.range 360448).map (score m c r)) := by
  have hN : 174 + 1 < cfg0.N := lt_of_lt_of_eq (by decide) (show 176 = cfg0.N from N_0.symm)
  obtain ⟨h1, h2⟩ := run_col m c r 174 (Nat.lt_of_succ_lt hN) (by decide)
  obtain ⟨-, h4⟩ := point_col m c ⟨175, hN⟩ _ r h1 h2
  have e : (List.ofFn fun j : Fin 100 => (Value.G3 m c : FVec Ideal S1x128x100 .f32) (ix3 0 r j))
      = (List.ofFn (column (loopVal (chunks (iblk m c 0 ⟨175, hN⟩) (iblk m c 1 ⟨175, hN⟩) (iblk m c 2 ⟨175, hN⟩)) (outsAt0 m c 174 (Nat.lt_of_succ_lt hN)).2 16) r)).take 100 := by
    rw [Value.G3_last, ← Value.outsAt0_sweep m c 175 hN]
    show List.ofFn (fun j : Fin 100 => ((outsAt0 m c (174 + 1) hN).1 : FVec Ideal S1x128x100 .f32) (ix3 0 r j)) = _
    rw [result_last]
    refine List.ext_getElem (by simp) fun j hj1 hj2 => ?_
    rw [List.getElem_take, List.getElem_ofFn, List.getElem_ofFn]
    pointwise [k0_pay5]
    rfl
  rw [e, h4]
  unfold topList
  rw [List.take_take]
  show topList 100 (blank ++ _) = topList 100 _
  rw [topList_perm List.perm_append_comm]
  refine topList_append_of_le 100 _ _ (by rw [List.length_map, List.length_range]; show 100 ≤ 2048 * (175 + 1); decide) fun x hx a _ => ?_
  rw [List.eq_of_mem_replicate hx]
  exact bot_le

end Cert.KernelIdeal.Gen

end
-- ==== Proof.ReferenceScore.lean ====
/-
  THE REFERENCE'S SCORES, read at (row, column) over the extended reals: the row's score against that row of bytes, times its scale.
-/
module

public import proofs.«01_k».proof.Proof.Nibbles
public import proofs.«01_k».proof.Proof.Gen.ReferenceIdeal.Run

@[expose] public section

noncomputable section

namespace Cert.ReferenceIdeal.Gen

open Idealize.ShloMosaic
open Cert.Score Cert.ReferenceIdeal Facts₀ Facts

/-- The bytes, widened. -/
def wide (w : IVec S360448x512 8) : IVec S360448x512 32 := extui 32 w natLt_8_32

/-- Every low field. -/
def lowField (w : IVec S360448x512 8) : IVec S360448x512 32 :=
  andi (wide w) (broadcastInDim S360448x512 ![] bcast_S_S360448x512 (constantI S_ 32 15#32))

/-- Every high field. -/
def highField (w : IVec S360448x512 8) : IVec S360448x512 32 :=
  Host.shrsi (wide w) (broadcastInDim S360448x512 ![] bcast_S_S360448x512 (constantI S_ 32 4#32))

/-- Fields as signed numbers. -/
def signed (f : IVec S360448x512 32) : FVec Ideal S360448x512 .bf16 :=
  sitofp .bf16 (select (cmpi .sge f (broadcastInDim S360448x512 ![] bcast_S_S360448x512 (constantI S_ 32 8#32)))
    (subi f (broadcastInDim S360448x512 ![] bcast_S_S360448x512 (constantI S_ 32 16#32))) f)

/-- The scores of all columns. -/
def scores (x : FVec Ideal S1x128x1024 .bf16) (w : IVec S360448x512 8) (s : FVec Ideal S360448 .f32) : FVec Ideal S128x360448 .f32 :=
  mulf (addf
    (Host.dotGeneral dot_S128x512_S360448x512_S128x360448_1_1_0_0_n_n none
      (Host.slice S128x512 ![0, 0] ![1, 2] (shapeCast S128x1024 x shapeCasts_S1x128x1024_S128x1024) slicesBy_S128x1024_S128x512_0s1_0s2)
      (signed (lowField w)))
    (Host.dotGeneral dot_S128x512_S360448x512_S128x360448_1_1_0_0_n_n none
      (Host.slice S128x512 ![0, 1] ![1, 2] (shapeCast S128x1024 x shapeCasts_S1x128x1024_S128x1024) slicesBy_S128x1024_S128x512_0s1_1s2)
      (signed (highField w))))
    (broadcastInDim S128x360448 ![0, 1] bcast_S1x360448_S128x360448_0_1 (broadcastInDim S1x360448 ![1] bcast_S360448_S1x360448_1 s))

/-- A score. -/
theorem scores_apply (x : FVec Ideal S1x128x1024 .bf16) (w : IVec S360448x512 8) (s : FVec Ideal S360448 .f32) (r : Fin 128)
    (n : Fin 360448) : scores x w s (ix2 r n)
      = pairScore (shapeCast S128x1024 x shapeCasts_S1x128x1024_S128x1024) w r n * s (ix1 n) := by
  unfold pairScore
  pointwise [scores, signed, lowField, highField, wide]
  refine congrArg (· * s (ix1 n)) (congrArg₂ (· + ·) (Finset.sum_congr rfl fun d _ => ?_) (Finset.sum_congr rfl fun d _ => ?_))
  · rw [← low_mask]; rfl
  · have e : (⟨1 + 2 * d.val, by omega⟩ : Fin 1024) = ⟨2 * d.val + 1, by omega⟩ := Fin.ext (Nat.add_comm _ _)
    rw [e, ← high_mask]; rfl

end Cert.ReferenceIdeal.Gen

end
-- ==== Proof.Select.lean ====
/-
  CHOOSING THE GREATEST. (1) The `k` greatest of all entries lie in the `k` blocks with the greatest maxima (`topList_blocks`). (2) What the
  host's top-k returns along the second axis of a matrix of extended reals: the values are the `k` greatest of the row in descending order
  (`topK_values`), the positions are different columns whose entries bound every other column's (`topK_positions`).
-/
module

public import Idealize.ShloMosaic.Lib.SortNet.TopList
public import Idealize.ShloMosaic.Lib.SortFacts
public import Idealize.ShloMosaic.Lib.ValueIdx
public import Idealize.ShloMosaic.PureOps.Ideal.Laws
public import Mathlib.Data.List.FinRange

@[expose] public section

noncomputable section

namespace Cert.Choose

open Idealize.ShloMosaic Idealize.ShloMosaic.ValueIdx Idealize.ShloMosaic.SortNet

section lists

variable {α : Type*} [LinearOrder α]

/-- If at least `k` entries are at least `s`, every one of the `k` greatest is. -/
theorem le_of_mem_topList (k : Nat) (A : List α) (s : α) (hc : k ≤ A.countP (fun x => decide (s ≤ x))) (a : α) (ha : a ∈ topList k A) :
    s ≤ a := by
  by_contra hlt
  rw [not_le] at hlt
  obtain ⟨i, hi, rfl⟩ := List.getElem_of_mem ha
  have hik : i < k := lt_of_lt_of_le hi (by rw [length_topList]; exact min_le_left _ _)
  have hs := List.pairwise_insertionSort (· ≥ ·) A
  have hiA : i < (A.insertionSort (· ≥ ·)).length := lt_of_lt_of_le hi (by unfold topList; rw [List.length_take]; exact min_le_right _ _)
  have e : (topList k A)[i] = (A.insertionSort (· ≥ ·))[i] := List.getElem_take
  rw [e] at hlt
  have h1 := countP_gt_le_index hs i hiA
  have h2 : A.countP (fun x => decide (s ≤ x)) ≤ (A.insertionSort (· ≥ ·)).countP (fun x => decide ((A.insertionSort (· ≥ ·))[i] < x)) := by
    rw [← (List.perm_insertionSort (· ≥ ·) A).countP_eq]
    refine List.countP_mono_left fun x _ hx => ?_
    rw [decide_eq_true_eq] at hx ⊢
    exact lt_of_lt_of_le hlt hx
  omega

/-- One entry at least `s` from each of the blocks listed. -/
theorem length_le_countP_flatMap {ι : Type*} (s : α) (f : ι → List α) : ∀ B : List ι, (∀ b ∈ B, ∃ x ∈ f b, s ≤ x) →
    B.length ≤ (B.flatMap f).countP (fun x => decide (s ≤ x))
  | [], _ => Nat.zero_le _
  | b :: B, h => by
    rw [List.flatMap_cons, List.countP_append, List.length_cons]
    have ih := length_le_countP_flatMap s f B fun b' hb' => h b' (List.mem_cons_of_mem _ hb')
    obtain ⟨x, hx, hsx⟩ := h b List.mem_cons_self
    have : 0 < (f b).countP (fun x => decide (s ≤ x)) := List.countP_pos_iff.mpr ⟨x, hx, decide_eq_true hsx⟩
    omega

/-- THE BLOCKS WITH THE GREATEST MAXIMA HOLD THE GREATEST ENTRIES: `B` lists `k` different blocks, `M` bounds each block's entries and is one of
    them, and no block outside `B` has a greater `M` than one in it. -/
theorem topList_blocks {n : Nat} (k : Nat) (f : Fin n → List α) (M : Fin n → α) (hM : ∀ b, ∀ x ∈ f b, x ≤ M b) (hMem : ∀ b, M b ∈ f b)
    (B : List (Fin n)) (hB : B.Nodup) (hk : B.length = k) (hout : ∀ b ∈ B, ∀ b', b' ∉ B → M b' ≤ M b) :
    topList k (B.flatMap f) = topList k ((List.finRange n).flatMap f) := by
  classical
  have hsub : B.Subperm (List.finRange n) := List.subperm_of_subset hB fun b _ => List.mem_finRange b
  obtain ⟨B', hB', hsl⟩ := hsub
  obtain ⟨R, hR⟩ := hsl.exists_perm_append
  have hperm : (List.finRange n).Perm (B ++ R) := hR.trans (hB'.append_right R)
  have hnd : (B ++ R).Nodup := hperm.nodup_iff.mp (List.nodup_finRange n)
  rw [topList_perm (hperm.flatMap_right f), List.flatMap_append]
  have hc : ∀ s : α, (∀ b ∈ B, s ≤ M b) → k ≤ (B.flatMap f).countP (fun x => decide (s ≤ x)) := fun s hs => by
    rw [← hk]
    exact length_le_countP_flatMap s f B fun b hb => ⟨M b, hMem b, hs b hb⟩
  refine (topList_append_of_le k _ _ ?_ fun s hs a ha => ?_).symm
  · rcases Nat.eq_zero_or_pos k with h0 | h0
    · omega
    · have hne : B ≠ [] := fun h => by rw [h] at hk; rw [← hk] at h0; exact lt_irrefl _ h0
      obtain ⟨b, hb, hmin⟩ : ∃ b ∈ B, ∀ b' ∈ B, M b ≤ M b' := by
        obtain ⟨b, hb⟩ := List.exists_mem_of_ne_nil B hne
        obtain ⟨b, hb, h⟩ := Finset.exists_min_image B.toFinset M ⟨b, List.mem_toFinset.mpr hb⟩
        exact ⟨b, List.mem_toFinset.mp hb, fun b' hb' => h b' (List.mem_toFinset.mpr hb')⟩
      exact le_trans (hc (M b) hmin) List.countP_le_length
  · obtain ⟨r, hr, hsr⟩ := List.mem_flatMap.mp hs
    have hrB : r ∉ B := fun hb => (List.nodup_append.mp hnd).2.2 r hb r hr rfl
    exact le_of_mem_topList k _ s (hc s fun b hb => le_trans (hM r s hsr) (hout b hb r hrB)) a ha

end lists

/-! ## The host's top-k along the rows of a matrix -/

section topk

variable {m n k : Nat}

theorem along_ix2 (r : Fin m) (j c : Fin n) : (ix2 r j).along (1 : Fin (⟨2, ![m, n]⟩ : Shape).rank) c = ix2 r c := by
  funext a
  match a with
  | ⟨0, _⟩ => rfl
  | ⟨1, _⟩ => rfl

/-- The order the top-k sorts the columns of row `r` by. -/
abbrev rowBefore (x : FVec Ideal ⟨2, ![m, n]⟩ .f32) (r : Fin m) (a b : Fin n) : Bool := decide (x (ix2 r b) < x (ix2 r a))

/-- The column that stands at place `j` of the sorted row. -/
def rowSrc (x : FVec Ideal ⟨2, ![m, n]⟩ .f32) (r : Fin m) (j : Fin n) : Fin n := sortedFrom (rowBefore x r) j

theorem rowSrc_injective (x : FVec Ideal ⟨2, ![m, n]⟩ .f32) (r : Fin m) : Function.Injective (rowSrc x r) := sortedFrom_injective _

theorem rowSrc_surjective (x : FVec Ideal ⟨2, ![m, n]⟩ .f32) (r : Fin m) : Function.Surjective (rowSrc x r) := sortedFrom_surjective _

theorem rowSrc_antitone (x : FVec Ideal ⟨2, ![m, n]⟩ .f32) (r : Fin m) {i j : Fin n} (hij : i ≤ j) :
    x (ix2 r (rowSrc x r j)) ≤ x (ix2 r (rowSrc x r i)) := by
  rcases eq_or_lt_of_le hij with rfl | hij
  · exact le_refl _
  · have h := sortedFrom_noInversion (rowBefore x r) (rowBefore x r)
      (fun a b h => by simp only [decide_eq_true_eq, decide_eq_false_iff_not] at h ⊢; exact not_lt.mpr (le_of_lt h)) (fun _ _ h => h)
      (fun a b c h1 h2 => by simp only [decide_eq_false_iff_not, not_lt] at h1 h2 ⊢; exact le_trans h1 h2) i j hij
    exact not_lt.mp (decide_eq_false_iff_not.mp h)

theorem sort_src (x : FVec Ideal ⟨2, ![m, n]⟩ .f32) (r : Fin m) (j : Fin n) (y : (⟨2, ![m, n]⟩ : Shape).Idx → BitVec 32) :
    (Host.sort2 ⟨2, ![m, n]⟩ 1 (fun l r => FloatOps.cmpfTotal (F := Ideal) .gt l.1 r.1) x y).1 (ix2 r j) = x (ix2 r (rowSrc x r j)) ∧
    (Host.sort2 ⟨2, ![m, n]⟩ 1 (fun l r => FloatOps.cmpfTotal (F := Ideal) .gt l.1 r.1) x y).2 (ix2 r j) = y (ix2 r (rowSrc x r j)) := by
  have hb : (fun a b : Fin n => FloatOps.cmpfTotal (F := Ideal) .gt (x ((ix2 r j).along (1 : Fin (⟨2, ![m, n]⟩ : Shape).rank) a))
      (x ((ix2 r j).along (1 : Fin (⟨2, ![m, n]⟩ : Shape).rank) b)) == 1#1) = rowBefore x r := by
    funext a b
    rw [along_ix2, along_ix2]
    show (BitVec.ofBool (decide (x (ix2 r b) < x (ix2 r a))) == 1#1) = _
    cases h : decide (x (ix2 r b) < x (ix2 r a)) <;> simp only [rowBefore, h] <;> rfl
  have hs : sortedFrom (n := n) (fun a b : Fin n => FloatOps.cmpfTotal (F := Ideal) .gt (x ((ix2 r j).along (1 : Fin (⟨2, ![m, n]⟩ : Shape).rank) a))
      (x ((ix2 r j).along (1 : Fin (⟨2, ![m, n]⟩ : Shape).rank) b)) == 1#1) j = rowSrc x r j := by rw [hb]; rfl
  unfold Host.sort2
  rw [dif_pos (by show 1 < 2; decide)]
  exact ⟨(congrArg (fun c : Fin n => x ((ix2 r j).along (1 : Fin (⟨2, ![m, n]⟩ : Shape).rank) c)) hs).trans (congrArg x (along_ix2 r j _)),
    (congrArg (fun c : Fin n => y ((ix2 r j).along (1 : Fin (⟨2, ![m, n]⟩ : Shape).rank) c)) hs).trans (congrArg y (along_ix2 r j _))⟩

/-- What the top-k returns at place `j` of row `r`: the entry of the source column, and that column's number. -/
theorem topK_src (hk : k ≤ n) (x : FVec Ideal ⟨2, ![m, n]⟩ .f32) (h : (⟨2, ![m, n]⟩ : Shape).Slices (fun _ => 0) ⟨2, ![m, k]⟩) (r : Fin m) (j : Fin k) :
    (Host.topK ⟨2, ![m, k]⟩ 1 (FloatOps.cmpfTotal (F := Ideal) .gt) x h).1 (ix2 r j) = x (ix2 r (rowSrc x r (j.castLE hk))) ∧
    (Host.topK ⟨2, ![m, k]⟩ 1 (FloatOps.cmpfTotal (F := Ideal) .gt) x h).2 (ix2 r j) = BitVec.ofNat 32 (rowSrc x r (j.castLE hk)).val := by
  have e : (fun a : Fin (⟨2, ![m, n]⟩ : Shape).rank => (⟨0 + ((ix2 r j : (⟨2, ![m, k]⟩ : Shape).Idx) (a.cast h.1.symm)).val,
      Nat.lt_of_lt_of_le (Nat.add_lt_add_left ((ix2 r j : (⟨2, ![m, k]⟩ : Shape).Idx) _).isLt _) (h.2 a)⟩ : Fin ((⟨2, ![m, n]⟩ : Shape).size a)))
      = ix2 r (j.castLE hk) := by
    funext a
    match a with
    | ⟨0, _⟩ => exact Fin.ext (Nat.zero_add _)
    | ⟨1, _⟩ => exact Fin.ext (Nat.zero_add _)
  unfold Host.topK extractStridedSlice
  dsimp only
  rw [e]
  refine ⟨(sort_src x r _ _).1, (sort_src x r _ _).2.trans ?_⟩
  rw [dif_pos (by show 1 < 2; decide)]
  rfl

/-- A descending rearrangement is the sorted list. -/
theorem ofFn_rowSrc (x : FVec Ideal ⟨2, ![m, n]⟩ .f32) (r : Fin m) :
    (List.ofFn fun j => x (ix2 r (rowSrc x r j))) = (List.ofFn fun j => x (ix2 r j)).insertionSort (· ≥ ·) := by
  refine eq_of_perm_of_descending ?_ ?_ (List.pairwise_insertionSort (· ≥ ·) _)
  · refine List.Perm.trans ?_ (List.perm_insertionSort (· ≥ ·) _).symm
    exact Equiv.Perm.ofFn_comp_perm (Equiv.ofBijective (rowSrc x r) ⟨rowSrc_injective x r, rowSrc_surjective x r⟩) fun j => x (ix2 r j)
  · rw [List.pairwise_ofFn]
    exact fun i j hij => rowSrc_antitone x r (le_of_lt hij)

/-- THE VALUES of the top-k are the `k` greatest of the row, in order. -/
theorem topK_values (hk : k ≤ n) (x : FVec Ideal ⟨2, ![m, n]⟩ .f32) (h : (⟨2, ![m, n]⟩ : Shape).Slices (fun _ => 0) ⟨2, ![m, k]⟩) (r : Fin m) :
    (List.ofFn fun j : Fin k => (Host.topK ⟨2, ![m, k]⟩ 1 (FloatOps.cmpfTotal (F := Ideal) .gt) x h).1 (ix2 r j))
      = topList k (List.ofFn fun j => x (ix2 r j)) := by
  unfold topList
  rw [← ofFn_rowSrc]
  refine List.ext_getElem ?_ fun i h1 h2 => ?_
  · rw [List.length_ofFn, List.length_take, List.length_ofFn]; omega
  · rw [List.getElem_ofFn, (topK_src hk x h r _).1, List.getElem_take, List.getElem_ofFn]
    rfl

/-- A place the top-k does not reach holds an entry at most every one it returns. -/
theorem topK_positions (hk : k ≤ n) (x : FVec Ideal ⟨2, ![m, n]⟩ .f32) (r : Fin m) (b' : Fin n)
    (hb' : b' ∉ (List.ofFn fun j : Fin k => rowSrc x r (j.castLE hk))) (j : Fin k) :
    x (ix2 r b') ≤ x (ix2 r (rowSrc x r (j.castLE hk))) := by
  obtain ⟨i, rfl⟩ := rowSrc_surjective x r b'
  refine rowSrc_antitone x r ?_
  by_contra hlt
  rw [not_le] at hlt
  refine hb' (List.mem_ofFn.mpr ⟨⟨i.val, lt_trans hlt j.isLt⟩, rfl⟩)

end topk

end Cert.Choose

end
-- ==== Proof.ReferenceValue.lean ====
/-
  THE REFERENCE'S RESULT. It takes the greatest score of every block of 128 columns, the 100 blocks whose greatest are the greatest, and the 100
  greatest of those blocks' scores. Each row of its result is the 100 greatest scores of the whole row, descending.
-/
module

public import proofs.«01_k».proof.Proof.ReferenceScore
public import proofs.«01_k».proof.Proof.Select
public import Idealize.ShloMosaic.Lib.ReduceAll
public import Idealize.ShloMosaic.Lib.Pointwise.IndexBridge

@[expose] public section

set_option maxHeartbeats 400000

noncomputable section

namespace Cert.ReferenceIdeal.Gen

open Idealize.ShloMosaic Idealize.ShloMosaic.TcCoe Idealize.ShloMosaic.SortNet
open Idealize.SL Idealize.SL.Sem
open Cert.Score Cert.Choose Cert.ReferenceIdeal Facts₀ Facts

variable (sc : FVec Ideal S128x360448 .f32)

/-- The scores, a block of 128 to each place. -/
def blocked : FVec Ideal S128x2816x128 .f32 := shapeCast S128x2816x128 sc shapeCasts_S128x360448_S128x2816x128

/-- The greatest score of every block. -/
def maxima : FVec Ideal S128x2816 .f32 :=
  Host.reduce FloatOps.maximumf (blocked sc) (constant S_ .f32 0xFF800000#32) reducesTo_S128x2816x128_S128x2816_d2 h_S_

/-- The blocks taken, as positions. -/
def raw : IVec S128x100x1 32 := broadcastInDim S128x100x1 ![0, 1] bcast_S128x100_S128x100x1_0_1
  (Host.topK S128x100 1 (FloatOps.cmpfTotal (F := Ideal) .gt) (maxima sc) sliceFits_S128x2816_S128x100).2

/-- The blocks taken, negative positions counted from the end. -/
def wrapped : IVec S128x100x1 32 := select (cmpi .slt (raw sc) (broadcastInDim S128x100x1 ![] bcast_S_S128x100x1 (constantI S_ 32 0#32)))
  (addi (raw sc) (broadcastInDim S128x100x1 ![] bcast_S_S128x100x1 (constantI S_ 32 2816#32))) (raw sc)

/-- Which of them are positions of a block. -/
def inRange : IVec S128x100 1 := Host.reduce IntOp.andi
  (andi (cmpi .sge (wrapped sc) (broadcastInDim S128x100x1 ![] bcast_S_S128x100x1 (constantI S_ 32 0#32)))
    (cmpi .sle (wrapped sc) (broadcastInDim S128x100x1 ![0, 1, 2] bcast_S1x1x1_S128x100x1_0_1_2
      (broadcastInDim S1x1x1 ![2] bcast_S1_S1x1x1_2 (constantI S1 32 2815#32)))))
  (constantI S_ 1 1#1) reducesTo_S128x100x1_S128x100_d2 h_S_

/-- The scores of the blocks taken. -/
def gathered : FVec Ideal S128x100x128 .f32 := select (broadcastInDim S128x100x128 ![0, 1] bcast_S128x100_S128x100x128_0_1 (inRange sc))
  (Host.gather gather_S128x2816x128_S128x100x1_S128x100x128_2_1_0_0_1_2_11128 (blocked sc) (wrapped sc))
  (broadcastInDim S128x100x128 ![] bcast_S_S128x100x128 (constant S_ .f32 0x7FC00000#32))

/-- The reference's result, from the scores. -/
def chosen : FVec Ideal S1x128x100 .f32 := shapeCast S1x128x100
  (Host.topK S128x100 1 (FloatOps.cmpfTotal (F := Ideal) .gt) (shapeCast S128x12800 (gathered sc) shapeCasts_S128x100x128_S128x12800)
    sliceFits_S128x12800_S128x100).1 shapeCasts_S128x100_S1x128x100

theorem result_eq (m : (ℓ : Loc nD τ sig) → Buf (Elt Ideal) ℓ) (c : Dev nD) : Value.res_main_v31 (F := Ideal) m c
    = chosen (scores (m ((c.tc : Thread nD τ).loc main_arg0)) (m ((c.tc : Thread nD τ).loc main_arg1)) (m ((c.tc : Thread nD τ).loc main_arg2))) := rfl

theorem blocked_apply (r : Fin 128) (b : Fin 2816) (i : Fin 128) :
    blocked sc (ix3 r b i) = sc (ix2 r ⟨b.val * 128 + i.val, by omega⟩) := by
  pointwise [blocked]

theorem maxima_apply (r : Fin 128) (b : Fin 2816) : maxima sc (ix2 r b) = Finset.univ.sup fun i : Fin 128 => blocked sc (ix3 r b i) := by
  pointwise [maxima]
  rw [show Ideal.ofBits .f32 0xFF800000#32 = ⊥ by simp [Ideal.ofBits, Ideal.ieee]]
  rfl

/-- Block `b`'s scores of row `r`. -/
def blockList (r : Fin 128) (b : Fin 2816) : List EReal := List.ofFn fun i : Fin 128 => blocked sc (ix3 r b i)

theorem le_maxima (r : Fin 128) (b : Fin 2816) (x : EReal) (hx : x ∈ blockList sc r b) : x ≤ maxima sc (ix2 r b) := by
  obtain ⟨i, rfl⟩ := (List.mem_ofFn' _ _).1 hx
  rw [maxima_apply]
  exact Finset.le_sup (f := fun i : Fin 128 => blocked sc (ix3 r b i)) (Finset.mem_univ i)

theorem maxima_mem (r : Fin 128) (b : Fin 2816) : maxima sc (ix2 r b) ∈ blockList sc r b := by
  rw [maxima_apply]
  obtain ⟨i, -, hi⟩ := Finset.exists_mem_eq_sup Finset.univ ⟨0, Finset.mem_univ _⟩ fun i : Fin 128 => blocked sc (ix3 r b i)
  exact (List.mem_ofFn' _ _).2 ⟨i, hi.symm⟩

/-- The `j`-th block taken for row `r`. -/
def taken (r : Fin 128) (j : Fin 100) : Fin 2816 := rowSrc (maxima sc) r (j.castLE (by decide))

theorem raw_apply (r : Fin 128) (j : Fin 100) : raw sc (ix3 r j 0) = BitVec.ofNat 32 (taken sc r j).val := by
  have e := (topK_src (by decide) (maxima sc) sliceFits_S128x2816_S128x100 r j).2
  rw [← ix2_eq_valueIdx] at e
  rw [taken, ← e]
  pointwise [raw]

theorem wrapped_apply (r : Fin 128) (j : Fin 100) : wrapped sc (ix3 r j 0) = BitVec.ofNat 32 (taken sc r j).val := by
  pointwise [wrapped]
  rw [raw_apply]
  have h : IntOp.cmpi .slt (BitVec.ofNat 32 (taken sc r j).val) 0#32 = 0#1 := by
    generalize taken sc r j = b
    revert b
    decide +kernel
  rw [h]
  rfl

theorem inRange_apply (r : Fin 128) (j : Fin 100) : inRange sc (ix2 r j) = 1#1 := by
  refine Host.reduce_andi_one _ _ _ _ _ rfl fun k => ?_
  idx_vars k
  obtain rfl : k2 = 0 := Subsingleton.elim _ _
  pointwise
  rw [wrapped_apply]
  generalize taken sc k0 k1 = b
  revert b
  decide +kernel

/-- The gather reads the block taken. -/
theorem gather_apply (x : FVec Ideal S128x2816x128 .f32) (idx : IVec S128x100x1 32) (r : Fin 128) (j : Fin 100) (i : Fin 128) (b : Fin 2816)
    (hb : idx (ix3 r j 0) = BitVec.ofNat 32 b.val) :
    Host.gather gather_S128x2816x128_S128x100x1_S128x100x128_2_1_0_0_1_2_11128 x idx (ix3 r j i) = x (ix3 r b i) := by
  unfold Host.gather
  congr 1
  funext a
  refine Fin.ext ?_
  show GatherDims.start _ (ix3 r j i) idx a + GatherDims.batchCoord _ (ix3 r j i) a + GatherDims.offCoord _ (ix3 r j i) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin S128x2816x128.rank) ∈ GatherDims.operandBatchingDims gather_S128x2816x128_S128x100x1_S128x100x128_2_1_0_0_1_2_11128 from List.mem_singleton.mpr rfl)]
    simp only [Nat.zero_add, Nat.add_zero]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S128x2816x128.rank) ∈ GatherDims.startIndexMap gather_S128x2816x128_S128x100x1_S128x100x128_2_1_0_0_1_2_11128 from List.mem_singleton.mpr rfl)]
    refine (congrArg (fun w : BitVec 32 => min w.toInt.toNat 2815) (?_ : _ = BitVec.ofNat 32 b.val)).trans ?_
    · refine (congrArg idx ?_).trans hb
      funext q
      refine Fin.ext ?_
      match q with
      | ⟨0, _⟩ => rfl
      | ⟨1, _⟩ => rfl
      | ⟨2, _⟩ => rfl
    · show min (BitVec.ofNat 32 b.val).toInt.toNat 2815 = b.val
      clear hb
      revert b
      decide +kernel
  · have hs : GatherDims.start gather_S128x2816x128_S128x100x1_S128x100x128_2_1_0_0_1_2_11128 (ix3 r j i) idx 2 = 0 := by
      unfold GatherDims.start
      exact dif_neg (by decide)
    rw [hs, GatherDims.batchCoord_eq_zero _ _ _ (by decide)]
    unfold GatherDims.offCoord
    rw [dif_pos (by decide)]
    simp only [Nat.zero_add]
    rfl

theorem gathered_apply (r : Fin 128) (j : Fin 100) (i : Fin 128) : gathered sc (ix3 r j i) = blocked sc (ix3 r (taken sc r j) i) := by
  rw [← gather_apply (blocked sc) (wrapped sc) r j i _ (wrapped_apply sc r j)]
  pointwise [gathered]
  rw [inRange_apply]
  rfl

/-- The scores of the blocks taken, in a row. -/
theorem candidates (r : Fin 128) :
    (List.ofFn fun q : Fin 12800 => shapeCast S128x12800 (gathered sc) shapeCasts_S128x100x128_S128x12800 (ix2 r q))
      = (List.ofFn (taken sc r)).flatMap (blockList sc r) := by
  refine (List.ofFn_mul (m := 100) (n := 128) _).trans ?_
  rw [List.flatMap_def, List.map_ofFn]
  refine congrArg List.flatten (congrArg List.ofFn (funext fun j => ?_))
  show _ = List.ofFn fun i : Fin 128 => blocked sc (ix3 r (taken sc r j) i)
  refine congrArg List.ofFn (funext fun i => ?_)
  rw [← gathered_apply]
  pointwise

/-- All the scores of a row. -/
theorem everything (r : Fin 128) : ((List.finRange 2816).flatMap (blockList sc r)) = List.ofFn fun n : Fin 360448 => sc (ix2 r n) := by
  refine Eq.trans ?_ (List.ofFn_mul (m := 2816) (n := 128) fun n : Fin (2816 * 128) => sc (ix2 r n)).symm
  rw [List.flatMap_def, ← List.ofFn_id, List.map_ofFn]
  refine congrArg List.flatten (congrArg List.ofFn (funext fun j => congrArg List.ofFn (funext fun i => ?_)))
  exact blocked_apply sc r j i

/-- A row of the reference's result. -/
theorem chosen_row (r : Fin 128) : (List.ofFn fun j : Fin 100 => chosen sc (ix3 0 r j)) = topList 100 (List.ofFn fun n : Fin 360448 => sc (ix2 r n)) := by
  have e : (List.ofFn fun j : Fin 100 => chosen sc (ix3 0 r j))
      = List.ofFn fun j : Fin 100 => (Host.topK S128x100 1 (FloatOps.cmpfTotal (F := Ideal) .gt)
        (shapeCast S128x12800 (gathered sc) shapeCasts_S128x100x128_S128x12800) sliceFits_S128x12800_S128x100).1 (ValueIdx.ix2 r j) := by
    refine congrArg List.ofFn (funext fun j => ?_)
    rw [← ix2_eq_valueIdx]
    pointwise [chosen]
  rw [e]
  refine (topK_values (by decide) (shapeCast S128x12800 (gathered sc) shapeCasts_S128x100x128_S128x12800) sliceFits_S128x12800_S128x100 r).trans ?_
  simp only [← ix2_eq_valueIdx]
  rw [candidates, ← everything]
  refine topList_blocks 100 (blockList sc r) (fun b => maxima sc (ix2 r b)) (le_maxima sc r) (maxima_mem sc r) (List.ofFn (taken sc r)) ?_ (by simp) ?_
  · rw [List.nodup_ofFn]
    intro a b hab
    exact Fin.castLE_injective _ (rowSrc_injective (maxima sc) r hab)
  · intro b hb b' hb'
    obtain ⟨j, rfl⟩ := (List.mem_ofFn' _ _).1 hb
    have h := topK_positions (by decide) (maxima sc) r b' hb' j
    rw [← ix2_eq_valueIdx, ← ix2_eq_valueIdx] at h
    exact h

end Cert.ReferenceIdeal.Gen

end
-- ==== Proof.Agree.lean ====
/-
  THE TWO RESULTS AGREE. From the same arguments, both programs return in every row the 100 greatest of the row's 360448 scores, descending.
-/
module

public import proofs.«01_k».proof.Proof.Accumulate
public import proofs.«01_k».proof.Proof.ReferenceValue

@[expose] public section

noncomputable section

namespace Cert.Agree

open Idealize.ShloMosaic Idealize.ShloMosaic.TcCoe Idealize.ShloMosaic.SortNet

/-- The kernel's result is the reference's result of the same arguments. -/
theorem results_agree (m : (ℓ : Loc KernelIdeal.nD KernelIdeal.τ KernelIdeal.sig) → Buf (Elt Ideal) ℓ) (c : Dev KernelIdeal.nD)
    (x : FVec Ideal ⟨3, ![1, 128, 1024]⟩ .bf16) (w : IVec ⟨2, ![360448, 512]⟩ 8) (s : FVec Ideal ⟨1, ![360448]⟩ .f32)
    (hx : x = m ((c.tc : Thread KernelIdeal.nD KernelIdeal.τ).loc KernelIdeal.main_arg0))
    (hw : w = m ((c.tc : Thread KernelIdeal.nD KernelIdeal.τ).loc KernelIdeal.main_arg1))
    (hs : s = m ((c.tc : Thread KernelIdeal.nD KernelIdeal.τ).loc KernelIdeal.main_arg2)) :
    (KernelIdeal.Value.G3 m c : FVec Ideal ⟨3, ![1, 128, 100]⟩ .f32) = ReferenceIdeal.Gen.chosen (ReferenceIdeal.Gen.scores x w s) := by
  subst hx hw hs
  funext y
  idx_vars y
  obtain rfl : y0 = 0 := Subsingleton.elim _ _
  have h1 := KernelIdeal.Gen.result_row m c y1
  have h2 := ReferenceIdeal.Gen.chosen_row (ReferenceIdeal.Gen.scores (m ((c.tc : Thread KernelIdeal.nD KernelIdeal.τ).loc KernelIdeal.main_arg0))
    (m ((c.tc : Thread KernelIdeal.nD KernelIdeal.τ).loc KernelIdeal.main_arg1))
    (m ((c.tc : Thread KernelIdeal.nD KernelIdeal.τ).loc KernelIdeal.main_arg2))) y1
  have h3 : (List.range 360448).map (KernelIdeal.Gen.score m c y1)
      = List.ofFn fun n : Fin 360448 => ReferenceIdeal.Gen.scores (m ((c.tc : Thread KernelIdeal.nD KernelIdeal.τ).loc KernelIdeal.main_arg0))
        (m ((c.tc : Thread KernelIdeal.nD KernelIdeal.τ).loc KernelIdeal.main_arg1))
        (m ((c.tc : Thread KernelIdeal.nD KernelIdeal.τ).loc KernelIdeal.main_arg2)) (ix2 y1 n) := by
    rw [KernelIdeal.Gen.map_range_eq_ofFn]
    refine congrArg List.ofFn (funext fun n => ?_)
    rw [ReferenceIdeal.Gen.scores_apply]
    unfold KernelIdeal.Gen.score
    rw [dif_pos n.isLt]
  rw [h3, ← h2] at h1
  exact congrFun (List.ofFn_injective h1) y2

end Cert.Agree

end
-- ==== Proof.lean ====
/-
  THE PROOF OF `Cert.Claim`. The frames of the two calls, `Kernel` (the exhaustive one) and `Scan`, are generated whole; the reference's is its generated run, and it has no semaphores. The
  value claim puts the two runs together by `Cert.Agree.results_agree`: each row of both results is the 100 greatest scores of the row.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.KernelIdeal.Value
public import proofs.«01_k».proof.Proof.Gen.KernelIdeal.Frame
public import proofs.«01_k».proof.Proof.Gen.Kernel.Frame
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs and leaves its arguments as they were; it declares no semaphore. -/
theorem frame_reference : quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- The two programs return the same result. -/
theorem value : algebraic_KernelIdeal_ReferenceIdeal (hKernelIdeal := Cert.KernelIdeal.Gen.facts) (hReferenceIdeal := Cert.ReferenceIdeal.Gen.facts) :=
  fun m g m' g' _ hargs => ⟨fun c => Cert.KernelIdeal.Value.G3 m c, Cert.KernelIdeal.Value.run (F := Ideal) m g,
    (θ_run _ _ _).mono (fun _ h c => ⟨(h c).1.trans ((Cert.ReferenceIdeal.Gen.result_eq m' c).trans
      (Cert.Agree.results_agree m c _ _ _ (hargs c).1 (hargs c).2.1 (hargs c).2.2).symm), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Scan.Gen.facts, Cert.ScanIdeal.Gen.facts,
  fun m ρ _ => Cert.Kernel.Gen.frame m ρ, fun m ρ _ => Cert.KernelIdeal.Gen.frame m ρ, frame_reference,
  fun m ρ _ => Cert.Scan.Gen.frame m ρ, fun m ρ _ => Cert.ScanIdeal.Gen.frame m ρ, trivial, value, trivial⟩

end Cert.Proof

end
